-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fifteen_apart [hPre_fifteen_apart : Cert.Pre_fifteen_apart.Facts] (m : (ℓ : Loc Cert.KernelIdeal.nD Cert.KernelIdeal.τ Cert.KernelIdeal.sig) → Buf (Elt Ideal) ℓ) : Prop :=
  ∀ c : Dev Cert.KernelIdeal.nD,
    (Cert.Pre_fifteen_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_fifteen_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_fifteen_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_fifteen_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fifteen_apart [hPre_fifteen_apart : Cert.Pre_fifteen_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fifteen_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_fifteen_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_fifteen_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_fifteen_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fifteen_apart [hKernelIdeal : Cert.KernelIdeal.Facts] [hPre_fifteen_apart : Cert.Pre_fifteen_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fifteen_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fifteen_apart [hReferenceIdeal : Cert.ReferenceIdeal.Facts] [hPre_fifteen_apart : Cert.Pre_fifteen_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fifteen_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_fifteen_apart [hKernelIdeal : Cert.KernelIdeal.Facts] [hReferenceIdeal : Cert.ReferenceIdeal.Facts] [hPre_fifteen_apart : Cert.Pre_fifteen_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fifteen_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fifteen_apart : Cert.Pre_fifteen_apart.Facts),
    quiescent_Kernel (hKernel := hKernel)
    ∧ quiescent_KernelIdeal (hKernelIdeal := hKernelIdeal)
    ∧ quiescent_KernelIdeal_pre_fifteen_apart (hKernelIdeal := hKernelIdeal) (hPre_fifteen_apart := hPre_fifteen_apart)
    ∧ quiescent_ReferenceIdeal (hReferenceIdeal := hReferenceIdeal)
    ∧ quiescent_ReferenceIdeal_pre_fifteen_apart (hReferenceIdeal := hReferenceIdeal) (hPre_fifteen_apart := hPre_fifteen_apart)
    ∧ preserves_Kernel_KernelIdeal
    ∧ algebraic_KernelIdeal_ReferenceIdeal_pre_fifteen_apart (hKernelIdeal := hKernelIdeal) (hReferenceIdeal := hReferenceIdeal) (hPre_fifteen_apart := hPre_fifteen_apart)
-- ==== Pre_fifteen_apart.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S16384x15 : Shape := ⟨2, ![16384, 15]⟩
abbrev S16384x14 : Shape := ⟨2, ![16384, 14]⟩
abbrev S16384x15x1 : Shape := ⟨3, ![16384, 15, 1]⟩
abbrev S16384x1x15 : Shape := ⟨3, ![16384, 1, 15]⟩
abbrev S16384x15x15 : Shape := ⟨3, ![16384, 15, 15]⟩

class Facts : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1000 : S_.BroadcastsInDim S16384x1000 (![] : Fin 0 → Fin S16384x1000.rank)
  slices_S16384x1000_S16384x15_0_985 : S16384x1000.Slices ![0, 985] S16384x15
  bcast_S_S16384x15 : S_.BroadcastsInDim S16384x15 (![] : Fin 0 → Fin S16384x15.rank)
  bcast_S_S16384 : S_.BroadcastsInDim S16384 (![] : Fin 0 → Fin S16384.rank)
  slices_S16384x15_S16384x14_0_0 : S16384x15.Slices ![0, 0] S16384x14
  slices_S16384x15_S16384x14_0_1 : S16384x15.Slices ![0, 1] S16384x14
  bcast_S16384x15_S16384x15x1_0_1 : S16384x15.BroadcastsInDim S16384x15x1 (![0, 1] : Fin 2 → Fin S16384x15x1.rank)
  bcast_S16384x15_S16384x1x15_0_2 : S16384x15.BroadcastsInDim S16384x1x15 (![0, 2] : Fin 2 → Fin S16384x1x15.rank)
  bcast_S16384x15x1_S16384x15x15_0_1_2 : S16384x15x1.BroadcastsInDim S16384x15x15 (![0, 1, 2] : Fin 3 → Fin S16384x15x15.rank)
  bcast_S16384x1x15_S16384x15x15_0_1_2 : S16384x1x15.BroadcastsInDim S16384x15x15 (![0, 1, 2] : Fin 3 → Fin S16384x15x15.rank)
  natLt_1_32 : 1 < 32
  reducesTo_S16384x15x15_S16384x15_d2 : S16384x15x15.ReducesTo [2] S16384x15
  h_S_ : 0 < S_.numel

variable [Facts]

variable {F : FTy → Type} [FloatOps F]
def comparator_f32_i32_d1 : F .f32 × BitVec 32 → F .f32 × BitVec 32 → BitVec 1 :=
  fun l r =>
    let cst_5 := FloatOps.ofBits .f32 0x00000000#32
    let v29 := FloatOps.cmpf .oeq l.1 cst_5
    let cst_6 := FloatOps.ofBits .f32 0x00000000#32
    let v30 := Scalar.select v29 cst_6 l.1
    let v31 := FloatOps.cmpf .une l.1 l.1
    let cst_7 := FloatOps.ofBits .f32 0x7FC00000#32
    let v32 := Scalar.select v31 cst_7 v30
    let cst_8 := FloatOps.ofBits .f32 0x00000000#32
    let v33 := FloatOps.cmpf .oeq r.1 cst_8
    let cst_9 := FloatOps.ofBits .f32 0x00000000#32
    let v34 := Scalar.select v33 cst_9 r.1
    let v35 := FloatOps.cmpf .une r.1 r.1
    let cst_10 := FloatOps.ofBits .f32 0x7FC00000#32
    let v36 := Scalar.select v35 cst_10 v34
    let v37 := FloatOps.cmpfTotal .lt v32 v36
    v37

def fn_where {F : FTy → Type} [FloatOps F] (arg0 : IVec S16384x1000 1) (arg1 : FVec F S_ .f32) (arg2 : FVec F S16384x1000 .f32) : FVec F S16384x1000 .f32 :=
  let v0 : FVec F S_ .f32 := id arg1
  let v1 : FVec F S16384x1000 .f32 := broadcastInDim S16384x1000 ![] bcast_S_S16384x1000 v0
  let v2 : FVec F S16384x1000 .f32 := select arg0 v1 arg2
  v2

def fn_part1 {F : FTy → Type} [FloatOps F] (main_v6 : FVec F S16384x15 .f32) (main_v9 : IVec S16384x15 32) (main_v14 : IVec S16384 1) (main_v16 : IVec S16384x1000 1) (main_v17 : FVec F S16384x14 .f32) : IVec S16384 1 × IVec S16384x1000 1 × IVec S16384x14 1 × IVec S16384x15 1 :=
  let main_v18 : FVec F S16384x14 .f32 := (extractStridedSlice S16384x14 ![0, 1] · slices_S16384x15_S16384x14_0_1) main_v6
  let main_v19 : IVec S16384x14 1 := cmpf .olt main_v17 main_v18
  let main_v20 : IVec S16384x15x1 32 := broadcastInDim S16384x15x1 ![0, 1] bcast_S16384x15_S16384x15x1_0_1 main_v9
  let main_v21 : IVec S16384x1x15 32 := broadcastInDim S16384x1x15 ![0, 2] bcast_S16384x15_S16384x1x15_0_2 main_v9
  let main_v22 : IVec S16384x15x15 32 := broadcastInDim S16384x15x15 ![0, 1, 2] bcast_S16384x15x1_S16384x15x15_0_1_2 main_v20
  let main_v23 : IVec S16384x15x15 32 := broadcastInDim S16384x15x15 ![0, 1, 2] bcast_S16384x1x15_S16384x15x15_0_1_2 main_v21
  let main_v24 : IVec S16384x15x15 1 := cmpi .eq main_v22 main_v23
  let main_v25 : IVec S16384x15x15 32 := (extui 32 · natLt_1_32) main_v24
  let main_c_3 : IVec S_ 32 := constantI S_ 32 0#32
  let main_v26 : IVec S16384x15 32 := (fun x v => Host.reduce IntOp.addi x v reducesTo_S16384x15x15_S16384x15_d2 h_S_) main_v25 main_c_3
  let main_c_4 : IVec S_ 32 := constantI S_ 32 2#32
  let main_v27 : IVec S16384x15 32 := broadcastInDim S16384x15 ![] bcast_S_S16384x15 main_c_4
  let main_v28 : IVec S16384x15 1 := cmpi .sle main_v26 main_v27
  (main_v14, main_v16, main_v19, main_v28)

def fn {F : FTy → Type} [FloatOps F] (main_arg0 : FVec F S16384x1000 .f32) (main_arg1 : IVec S16384 32) : IVec S16384 1 × IVec S16384x1000 1 × IVec S16384x14 1 × IVec S16384x15 1 :=
  let main_v0 : IVec S16384x1000 32 := iotaInDim S16384x1000 32 1
  let main_v1 : IVec S16384x1 32 := broadcastInDim S16384x1 ![0] bcast_S16384_S16384x1_0 main_arg1
  let main_v2 : IVec S16384x1000 32 := broadcastInDim S16384x1000 ![0, 1] bcast_S16384x1_S16384x1000_0_1 main_v1
  let main_v3 : IVec S16384x1000 1 := cmpi .eq main_v0 main_v2
  let main_cst : FVec F S_ .f32 := constant S_ .f32 0x00000000#32
  let main_v4 : FVec F S16384x1000 .f32 := fn_where (F := F) main_v3 main_cst main_arg0
  let main_v5_0 : FVec F S16384x1000 .f32 := (fun x y => (Host.sort2 S16384x1000 1 comparator_f32_i32_d1 x y).1) main_v4 main_v0
  let main_v5_1 : IVec S16384x1000 32 := (fun x y => (Host.sort2 S16384x1000 1 comparator_f32_i32_d1 x y).2) main_v4 main_v0
  let main_v6 : FVec F S16384x15 .f32 := (extractStridedSlice S16384x15 ![0, 985] · slices_S16384x1000_S16384x15_0_985) main_v5_0
  let main_v7 : IVec S16384x15 32 := (extractStridedSlice S16384x15 ![0, 985] · slices_S16384x1000_S16384x15_0_985) main_v5_1
  let main_c : IVec S_ 32 := constantI S_ 32 127#32
  let main_v8 : IVec S16384x15 32 := broadcastInDim S16384x15 ![] bcast_S_S16384x15 main_c
  let main_v9 : IVec S16384x15 32 := andi main_v7 main_v8
  let main_c_0 : IVec S_ 32 := constantI S_ 32 0#32
  let main_v10 : IVec S16384 32 := broadcastInDim S16384 ![] bcast_S_S16384 main_c_0
  let main_v11 : IVec S16384 1 := cmpi .sge main_arg1 main_v10
  let main_c_1 : IVec S_ 32 := constantI S_ 32 1000#32
  let main_v12 : IVec S16384 32 := broadcastInDim S16384 ![] bcast_S_S16384 main_c_1
  let main_v13 : IVec S16384 1 := cmpi .slt main_arg1 main_v12
  let main_v14 : IVec S16384 1 := andi main_v11 main_v13
  let main_cst_2 : FVec F S_ .f32 := constant S_ .f32 0x7F800000#32
  let main_v15 : FVec F S16384x1000 .f32 := broadcastInDim S16384x1000 ![] bcast_S_S16384x1000 main_cst_2
  let main_v16 : IVec S16384x1000 1 := cmpf .olt main_arg0 main_v15
  let main_v17 : FVec F S16384x14 .f32 := (extractStridedSlice S16384x14 ![0, 0] · slices_S16384x15_S16384x14_0_0) main_v6
  fn_part1 (F := F) main_v6 main_v9 main_v14 main_v16 main_v17
-- ==== Kernel.lean ====
abbrev S16384x1000 : Shape := ⟨2, ![16384, 1000]⟩
abbrev S16384 : Shape := ⟨1, ![16384]⟩
abbrev S16x1x1024 : Shape := ⟨3, ![16, 1, 1024]⟩
abbrev S16x1x1 : Shape := ⟨3, ![16, 1, 1]⟩
abbrev S1x1x1024 : Shape := ⟨3, ![1, 1, 1024]⟩
abbrev S1024x1000 : Shape := ⟨2, ![1024, 1000]⟩
abbrev S1x1x1 : Shape := ⟨3, ![1, 1, 1]⟩
abbrev S1024 : Shape := ⟨1, ![1024]⟩
abbrev S1024x1 : Shape := ⟨2, ![1024, 1]⟩
abbrev S1024x24 : Shape := ⟨2, ![1024, 24]⟩
abbrev S1024x1024 : Shape := ⟨2, ![1024, 1024]⟩
abbrev S1024x128 : Shape := ⟨2, ![1024, 128]⟩
abbrev S1024x15 : Shape := ⟨2, ![1024, 15]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16x1x1024, .i32⟩
  | .hbm, ⟨3, _⟩ => ⟨S16x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1x1024, .i32⟩
  | .local _ .vmem, ⟨1, _⟩ => ⟨S1x1x1024, .i32⟩
  | .local _ .vmem, ⟨2, _⟩ => ⟨S1024x1000, .f32⟩
  | .local _ .vmem, ⟨3, _⟩ => ⟨S1024x1000, .f32⟩
  | .local _ .vmem, ⟨4, _⟩ => ⟨S1x1x1, .f32⟩
  | .local _ .vmem, ⟨5, _⟩ => ⟨S1x1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S16384x985 : Shape := ⟨2, ![16384, 985]⟩
abbrev S16384x985x1 : Shape := ⟨3, ![16384, 985, 1]⟩
abbrev S16384x985x2 : Shape := ⟨3, ![16384, 985, 2]⟩

abbrev nBuf : Space → Nat
  | .hbm => 137
  | .vmem => 0
  | .smem => 0
  | _ => 0

abbrev hbmTy0_0 (i : Nat) : BufTy := match i % 128 with
  | 0 => ⟨S16384x1000, .f32⟩
  | 1 => ⟨S16384, .i32⟩
  | 2 => ⟨S16384, .i32⟩
  | 3 => ⟨S_, .f32⟩
  | 4 => ⟨S16384x1000, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x1, .i32⟩
  | 21 => ⟨S16384x2, .i32⟩
  | 22 => ⟨S_, .f32⟩
  | 23 => ⟨S16384, .f32⟩
  | 24 => ⟨S16384x1000, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384x1, .i32⟩
  | 41 => ⟨S16384x2, .i32⟩
  | 42 => ⟨S_, .f32⟩
  | 43 => ⟨S16384, .f32⟩
  | 44 => ⟨S16384x1000, .f32⟩
  | 45 => ⟨S16384x1000, .i32⟩
  | 46 => ⟨S16384x1000, .f32⟩
  | 47 => ⟨S16384x1000, .i32⟩
  | 48 => ⟨S16384x985, .i32⟩
  | 49 => ⟨S16384x1, .i32⟩
  | 50 => ⟨S_, .i32⟩
  | 51 => ⟨S16384x1, .i32⟩
  | 52 => ⟨S16384x1, .i1⟩
  | 53 => ⟨S_, .i32⟩
  | 54 => ⟨S16384x1, .i32⟩
  | 55 => ⟨S16384x1, .i32⟩
  | 56 => ⟨S16384x1, .i32⟩
  | 57 => ⟨S_, .i32⟩
  | 58 => ⟨S16384x985, .i32⟩
  | 59 => ⟨S16384x985, .i1⟩
  | 60 => ⟨S_, .i32⟩
  | 61 => ⟨S16384x985, .i32⟩
  | 62 => ⟨S16384x985, .i32⟩
  | 63 => ⟨S16384x985, .i32⟩
  | 64 => ⟨S16384x985, .i32⟩
  | 65 => ⟨S16384x985x1, .i32⟩
  | 66 => ⟨S16384x985x1, .i32⟩
  | 67 => ⟨S16384x985x2, .i32⟩
  | 68 => ⟨S_, .f32⟩
  | 69 => ⟨S16384x985, .f32⟩
  | 70 => ⟨S16384x1000, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x1, .i32⟩
  | 87 => ⟨S16384x2, .i32⟩
  | 88 => ⟨S16384, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x1, .i32⟩
  | 105 => ⟨S16384x2, .i32⟩
  | 106 => ⟨S16384x1000, .f32⟩
  | 107 => ⟨S_, .f32⟩
  | 108 => ⟨S16384, .f32⟩
  | 109 => ⟨S_, .f32⟩
  | 110 => ⟨S16384, .f32⟩
  | 111 => ⟨S16384, .f32⟩
  | 112 => ⟨S16384x1, .f32⟩
  | 113 => ⟨S16384x1000, .f32⟩
  | 114 => ⟨S16384x1000, .f32⟩
  | 115 => ⟨S16384x1000, .f32⟩
  | 116 => ⟨S_, .f32⟩
  | 117 => ⟨S16384, .f32⟩
  | 118 => ⟨S16384x1, .f32⟩
  | 119 => ⟨S16384x1, .f32⟩
  | 120 => ⟨S16384x1000, .f32⟩
  | 121 => ⟨S16384x1000, .f32⟩
  | 122 => ⟨S_, .f32⟩
  | 123 => ⟨S16384x1000, .f32⟩
  | 124 => ⟨S16384x1000, .i1⟩
  | 125 => ⟨S_, .f32⟩
  | 126 => ⟨S_, .f32⟩
  | 127 => ⟨S16384x1000, .f32⟩
  | _ => ⟨S16384x1000, .f32⟩

abbrev hbmTy0_1 (i : Nat) : BufTy := match i % 128 with
  | 0 => ⟨S16384x1000, .f32⟩
  | 1 => ⟨S16384x1000, .f32⟩
  | 2 => ⟨S16384x1000, .f32⟩
  | 3 => ⟨S_, .f32⟩
  | 4 => ⟨S16384, .f32⟩
  | 5 => ⟨S_, .f32⟩
  | 6 => ⟨S_, .f32⟩
  | 7 => ⟨S_, .f32⟩
  | 8 => ⟨S_, .f32⟩
  | _ => ⟨S16384x1000, .f32⟩

abbrev hbmTy (i : Nat) : BufTy := match i / 128 with
  | 0 => hbmTy0_0 i
  | 1 => hbmTy0_1 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_c_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_18 : Ref sig .tc := ⟨.hbm, 89, rfl⟩
abbrev main_v65 : Ref sig .tc := ⟨.hbm, 90, rfl⟩
abbrev main_v66 : Ref sig .tc := ⟨.hbm, 91, rfl⟩
abbrev main_c_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_20 : Ref sig .tc := ⟨.hbm, 96, rfl⟩
abbrev main_v70 : Ref sig .tc := ⟨.hbm, 97, rfl⟩
abbrev main_v71 : Ref sig .tc := ⟨.hbm, 98, rfl⟩
abbrev main_c_21 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call1_cst : Ref sig .tc := ⟨.hbm, 107, rfl⟩
abbrev main_call1_v0 : Ref sig .tc := ⟨.hbm, 108, rfl⟩
abbrev main_call1_cst_0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_cst_1 : Ref sig .tc := ⟨.hbm, 116, rfl⟩
abbrev main_call1_v7 : Ref sig .tc := ⟨.hbm, 117, rfl⟩
abbrev main_call1_v8 : Ref sig .tc := ⟨.hbm, 118, rfl⟩
abbrev main_call1_v9 : Ref sig .tc := ⟨.hbm, 119, rfl⟩
abbrev main_call1_v10 : Ref sig .tc := ⟨.hbm, 120, rfl⟩
abbrev main_v79 : Ref sig .tc := ⟨.hbm, 121, rfl⟩
abbrev main_cst_22 : Ref sig .tc := ⟨.hbm, 122, rfl⟩
abbrev main_v80 : Ref sig .tc := ⟨.hbm, 123, rfl⟩
abbrev main_v81 : Ref sig .tc := ⟨.hbm, 124, rfl⟩
abbrev main_cst_23 : Ref sig .tc := ⟨.hbm, 125, rfl⟩
abbrev main_call2_v0 : Ref sig .tc := ⟨.hbm, 126, rfl⟩
abbrev main_call2_v1 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_24 : Ref sig .tc := ⟨.hbm, 131, rfl⟩
abbrev main_v85 : Ref sig .tc := ⟨.hbm, 132, rfl⟩
abbrev main_cst_25 : Ref sig .tc := ⟨.hbm, 133, rfl⟩
abbrev main_v86 : Ref sig .tc := ⟨.hbm, 134, rfl⟩
abbrev main_cst_26 : Ref sig .tc := ⟨.hbm, 135, rfl⟩
abbrev main_v87 : Ref sig .tc := ⟨.hbm, 136, rfl⟩

abbrev nD : Nat := 1
abbrev τ : Topo := Topo.v7x

variable {F : FTy → Type} [FloatOps F]
-- ==== Proof.RefFrame.lean ====
/-
  The reference's frame: it terminates, its arguments end unchanged, and every counter is zero, since it declares none.
-/
module

public import proofs.«01_k».proof.Defs
public import proofs.«01_k».proof.Proof.Gen.ReferenceIdeal
public import proofs.«01_k».proof.Proof.Gen.ReferenceIdeal.Run

@[expose] public section

noncomputable section

namespace Cert.Ref

open Idealize.ShloMosaic Idealize.SL.Sem

/-- The reference declares no semaphore. -/
theorem no_sem {α : Type} (f z : GSem Cert.ReferenceIdeal.nD Cert.ReferenceIdeal.τ Cert.ReferenceIdeal.sig → α) : f = z := by
  funext g
  have : IsEmpty (SemLoc Cert.ReferenceIdeal.sig) := by
    refine ⟨fun s => ?_⟩
    cases s <;> rename_i i <;> exact Fin.elim0 i
  exact this.elim g.2

theorem frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h c).2, no_sem _ _⟩) (Cert.ReferenceIdeal.Value.run m g)

end Cert.Ref

end
-- ==== Proof.Rounds.lean ====
/- The selection of the fifteen largest entries of a row: each of 128 lanes keeps its two largest entries, and fifteen
   rounds take the largest first register off every lane that holds it. Where no lane holds more than two of the fifteen
   largest and no two of those are equal, the rounds find them in order. -/
module

public import Mathlib.Data.EReal.Basic
public import Mathlib.Data.Finset.Fold
public import Mathlib.Data.Fintype.Basic
public import Mathlib.Data.Fintype.Card
public import Mathlib.Order.Fin.Basic

@[expose] public section

noncomputable section

namespace Cert.Row

open Classical

/-! ## A lane's two largest entries -/

/-- `p` is the pair of the two largest of the values `f` takes at the positions `S`. -/
def Two {ι : Type} (S : Finset ι) (f : ι → EReal) (p : EReal × EReal) : Prop :=
  ∃ i ∈ S, ∃ j ∈ S, i ≠ j ∧ f i = p.1 ∧ f j = p.2 ∧ p.2 ≤ p.1 ∧ ∀ k ∈ S, k ≠ i → k ≠ j → f k ≤ p.2

/-- Two values in order, the larger first. -/
def sort2 (a b : EReal) : EReal × EReal := (max a b, min a b)

/-- The two largest of two ordered pairs. -/
def merge2 (p q : EReal × EReal) : EReal × EReal :=
  (max p.1 q.1, max (min p.1 q.1) (if q.1 ≤ p.1 then p.2 else q.2))

theorem two_sort {ι : Type} [DecidableEq ι] (f : ι → EReal) {i j : ι} (h : i ≠ j) : Two {i, j} f (sort2 (f i) (f j)) := by
  rcases le_total (f i) (f j) with hle | hle
  · refine ⟨j, by simp, i, by simp, h.symm, ?_, ?_, ?_, ?_⟩
    · simp [sort2, hle]
    · simp [sort2, hle]
    · simp [sort2, hle]
    · intro k hk h1 h2; simp at hk; tauto
  · refine ⟨i, by simp, j, by simp, h, ?_, ?_, ?_, ?_⟩
    · simp [sort2, hle]
    · simp [sort2, hle]
    · simp [sort2, hle]
    · intro k hk h1 h2; simp at hk; tauto

/-- The merge where the first pair has the larger head. -/
theorem two_merge_le {ι : Type} [DecidableEq ι] {S T : Finset ι} {f : ι → EReal} {p q : EReal × EReal} (hd : Disjoint S T)
    (hp : Two S f p) (hq : Two T f q) (h : q.1 ≤ p.1) : Two (S ∪ T) f (p.1, max q.1 p.2) := by
  obtain ⟨i, hi, j, hj, hij, h1, h2, h3, h4⟩ := hp
  obtain ⟨i', hi', j', hj', hij', h1', h2', h3', h4'⟩ := hq
  have hne : ∀ {a b : ι}, a ∈ S → b ∈ T → a ≠ b := fun ha hb e => Finset.disjoint_left.1 hd ha (e ▸ hb)
  have hT : ∀ k ∈ T, f k ≤ q.1 := by
    intro k hk
    by_cases e : k = i'
    · rw [e, h1']
    by_cases e' : k = j'
    · rw [e', h2']; exact h3'
    · exact (h4' k hk e e').trans h3'
  rcases le_total q.1 p.2 with hle | hle
  · refine ⟨i, Finset.mem_union_left _ hi, j, Finset.mem_union_left _ hj, hij, h1, by simp [hle, h2], by simp [h3, h], ?_⟩
    intro k hk e e'
    rcases Finset.mem_union.1 hk with hk | hk
    · exact (h4 k hk e e').trans (le_max_right _ _)
    · exact (hT k hk).trans (le_max_left _ _)
  · refine ⟨i, Finset.mem_union_left _ hi, i', Finset.mem_union_right _ hi', hne hi hi', h1, by simp [hle, h1'], by simp [h3, h], ?_⟩
    intro k hk e e'
    rcases Finset.mem_union.1 hk with hk | hk
    · by_cases e'' : k = j
      · rw [e'', h2]; exact le_max_right _ _
      · exact (h4 k hk e e'').trans (le_max_right _ _)
    · exact (hT k hk).trans (le_max_left _ _)

theorem two_merge {ι : Type} [DecidableEq ι] {S T : Finset ι} {f : ι → EReal} {p q : EReal × EReal} (hd : Disjoint S T)
    (hp : Two S f p) (hq : Two T f q) : Two (S ∪ T) f (merge2 p q) := by
  rcases le_or_gt q.1 p.1 with h | h
  · have e : merge2 p q = (p.1, max q.1 p.2) := by simp [merge2, h]
    rw [e]; exact two_merge_le hd hp hq h
  · have e : merge2 p q = (q.1, max p.1 q.2) := by simp [merge2, h.le, not_le.2 h]
    rw [e, Finset.union_comm]; exact two_merge_le hd.symm hq hp h.le

/-- A lane's registers: its eight entries merged two by two. -/
def lane8 (c : Fin 8 → EReal) : EReal × EReal :=
  merge2 (merge2 (sort2 (c 0) (c 1)) (sort2 (c 2) (c 3))) (merge2 (sort2 (c 4) (c 5)) (sort2 (c 6) (c 7)))

theorem two_lane8 (c : Fin 8 → EReal) : Two Finset.univ c (lane8 c) := by
  have h := two_merge (f := c) (S := ({0, 1} ∪ {2, 3} : Finset (Fin 8))) (T := ({4, 5} ∪ {6, 7} : Finset (Fin 8))) (by decide)
    (two_merge (by decide) (two_sort c (by decide : (0 : Fin 8) ≠ 1)) (two_sort c (by decide : (2 : Fin 8) ≠ 3)))
    (two_merge (by decide) (two_sort c (by decide : (4 : Fin 8) ≠ 5)) (two_sort c (by decide : (6 : Fin 8) ≠ 7)))
  have e : (({0, 1} ∪ {2, 3}) ∪ ({4, 5} ∪ {6, 7}) : Finset (Fin 8)) = Finset.univ := by decide
  rwa [e] at h

/-! ## The rounds -/

/-- The registers of the lanes. -/
abbrev Regs := Fin 128 → EReal × EReal

/-- The largest first register. -/
def vmax (s : Regs) : EReal := Finset.univ.fold max ⊥ fun l => (s l).1

/-- One round: a lane whose first register is the largest moves its second up. -/
def next (s : Regs) : Regs := fun l => if (s l).1 = vmax s then ((s l).2, ⊥) else s l

/-- The value `x` is among the first `i` of `t`, or above one of them. -/
def Gone (t : Fin 15 → EReal) (i : ℕ) (x : EReal) : Prop := ∃ j : Fin 15, j.val < i ∧ t j ≤ x

/-- A lane's registers once the values among the first `i` of `t`, and what lies above them, are taken off. -/
def cut (t : Fin 15 → EReal) (i : ℕ) (p : EReal × EReal) : EReal × EReal :=
  if Gone t i p.1 then (if Gone t i p.2 then (⊥, ⊥) else (p.2, ⊥)) else p

/-- What the rounds take for granted: `(cl i, cj i)` is where the `i`-th largest entry `t i` lies. -/
structure Top (f : Fin 128 → Fin 8 → EReal) (t : Fin 15 → EReal) (cl : Fin 15 → Fin 128) (cj : Fin 15 → Fin 8) : Prop where
  val : ∀ i, t i = f (cl i) (cj i)
  anti : StrictAnti t
  rest : ∀ l j, (∃ i, cl i = l ∧ cj i = j) ∨ f l j ≤ t 14
  lanes : ∀ i, (Finset.univ.filter fun i' => cl i' = cl i).card ≤ 2

section
variable {f : Fin 128 → Fin 8 → EReal} {t : Fin 15 → EReal} {cl : Fin 15 → Fin 128} {cj : Fin 15 → Fin 8}

theorem Top.last_le (h : Top f t cl cj) (i : Fin 15) : t 14 ≤ t i := h.anti.antitone (by omega)

/-- Every one of the fifteen is in a register of its lane. -/
theorem Top.mem (h : Top f t cl cj) (i : Fin 15) : t i = (lane8 (f (cl i))).1 ∨ t i = (lane8 (f (cl i))).2 := by
  obtain ⟨p, -, q, -, hpq, h1, h2, h3, h4⟩ := two_lane8 (f (cl i))
  by_cases e : cj i = p
  · left; rw [h.val, e, h1]
  by_cases e' : cj i = q
  · right; rw [h.val, e', h2]
  right
  have hle : t i ≤ (lane8 (f (cl i))).2 := by rw [h.val]; exact h4 _ (Finset.mem_univ _) e e'
  refine le_antisymm hle ?_
  rcases h.rest (cl i) p with ⟨a, ha, ha'⟩ | hp
  · rcases h.rest (cl i) q with ⟨b, hb, hb'⟩ | hq
    · exfalso
      have hsub : ({i, a, b} : Finset (Fin 15)) ⊆ Finset.univ.filter fun i' => cl i' = cl i := by
        intro k hk; simp at hk; rcases hk with rfl | rfl | rfl <;> simp [*]
      have hia : i ≠ a := fun he => e (by rw [he, ha'])
      have hib : i ≠ b := fun he => e' (by rw [he, hb'])
      have hab : a ≠ b := fun he => hpq (by rw [← ha', ← hb', he])
      have hc : ({i, a, b} : Finset (Fin 15)).card = 3 := Finset.card_eq_three.2 ⟨i, a, b, hia, hib, hab, rfl⟩
      have := Finset.card_le_card hsub
      have := h.lanes i
      omega
    · rw [← h2]; exact hq.trans (h.last_le i)
  · exact h3.trans (h1 ▸ hp.trans (h.last_le i))

/-- A register's value is one of the fifteen or no larger than the last of them. -/
theorem Top.low (h : Top f t cl cj) (l : Fin 128) (x : EReal) (hx : x = (lane8 (f l)).1 ∨ x = (lane8 (f l)).2) :
    (∃ j, x = t j) ∨ x ≤ t 14 := by
  obtain ⟨p, -, q, -, hpq, h1, h2, h3, h4⟩ := two_lane8 (f l)
  have key : ∀ r, x = f l r → (∃ j, x = t j) ∨ x ≤ t 14 := by
    rintro r rfl
    rcases h.rest l r with ⟨i, rfl, rfl⟩ | hr
    · exact Or.inl ⟨i, (h.val i).symm⟩
    · exact Or.inr hr
  rcases hx with hx | hx
  · exact key p (hx.trans h1.symm)
  · exact key q (hx.trans h2.symm)

/-- A register's value that is not taken off yet is no larger than the next of the fifteen. -/
theorem Top.le_of_not_cut (h : Top f t cl cj) (i : Fin 15) (l : Fin 128) (x : EReal)
    (hx : x = (lane8 (f l)).1 ∨ x = (lane8 (f l)).2) (hn : ¬ Gone t i.val x) : x ≤ t i := by
  rcases h.low l x hx with ⟨j, rfl⟩ | hx
  · by_contra hlt
    exact hn ⟨j, by simpa using h.anti.lt_iff_gt.1 (not_le.1 hlt), le_rfl⟩
  · exact hx.trans (h.last_le i)

theorem Top.not_cut (h : Top f t cl cj) (i : Fin 15) : ¬ Gone t i.val (t i) :=
  fun ⟨_, hj, hle⟩ => (h.anti (Fin.lt_def.2 hj)).not_ge hle

/-- The round's largest first register is the next of the fifteen. -/
theorem Top.vmax_cut (h : Top f t cl cj) (i : Fin 15) : vmax (fun l => cut t i.val (lane8 (f l))) = t i := by
  refine le_antisymm ?_ ?_
  · refine (Finset.fold_max_le _).2 ⟨bot_le, fun l _ => ?_⟩
    beta_reduce
    unfold cut
    split_ifs with ha hb
    · exact bot_le
    · exact h.le_of_not_cut i l _ (Or.inr rfl) hb
    · exact h.le_of_not_cut i l _ (Or.inl rfl) ha
  · refine (Finset.le_fold_max _).2 (Or.inr ⟨cl i, Finset.mem_univ _, ?_⟩)
    have hn := h.not_cut i
    beta_reduce
    unfold cut
    split_ifs with ha hb
    · rcases h.mem i with e | e
      · rw [e] at hn; exact absurd ha hn
      · rw [e] at hn; exact absurd hb hn
    · rcases h.mem i with e | e
      · rw [e] at hn; exact absurd ha hn
      · exact e.le
    · rcases h.mem i with e | e
      · exact e.le
      · rw [e]; obtain ⟨p, -, q, -, -, -, -, h3, -⟩ := two_lane8 (f (cl i)); exact h3

/-- A round takes the next of the fifteen off. -/
theorem Top.next_cut (h : Top f t cl cj) (i : Fin 15) (hi : i.val < 14) :
    next (fun l => cut t i.val (lane8 (f l))) = fun l => cut t (i.val + 1) (lane8 (f l)) := by
  funext l
  have hsucc : ∀ x, Gone t (i.val + 1) x ↔ Gone t i.val x ∨ t i ≤ x := by
    intro x
    constructor
    · rintro ⟨j, hj, hx⟩
      rcases Nat.lt_succ_iff_lt_or_eq.1 hj with hj | hj
      · exact Or.inl ⟨j, hj, hx⟩
      · exact Or.inr (Fin.ext hj ▸ hx)
    · rintro (⟨j, hj, hx⟩ | hx)
      · exact ⟨j, by omega, hx⟩
      · exact ⟨i, by omega, hx⟩
  unfold next
  rw [h.vmax_cut i]
  have h14 : t 14 < t i := h.anti (Fin.lt_def.2 hi)
  have hA := h.le_of_not_cut i l (lane8 (f l)).1 (Or.inl rfl)
  have hB := h.le_of_not_cut i l (lane8 (f l)).2 (Or.inr rfl)
  obtain ⟨p, -, q, -, hpq, h1, h2, h3, -⟩ := two_lane8 (f l)
  -- the two registers of a lane are not both the next of the fifteen
  have hne : (lane8 (f l)).1 = t i → (lane8 (f l)).2 ≠ t i := by
    intro e e'
    rcases h.rest l p with ⟨a, rfl, rfl⟩ | hp
    · rcases h.rest (cl a) q with ⟨b, hb, rfl⟩ | hq
      · have ea : t a = t i := by rw [h.val a, h1, e]
        have eb : t b = t i := by rw [h.val b, hb, h2, e']
        exact hpq (by rw [h.anti.injective (ea.trans eb.symm)])
      · rw [h2, e'] at hq; exact absurd hq h14.not_ge
    · rw [h1, e] at hp; exact absurd hp h14.not_ge
  unfold cut
  simp only [hsucc]
  by_cases ha : Gone t i.val (lane8 (f l)).1
  · by_cases hb : Gone t i.val (lane8 (f l)).2
    · simp [ha, hb]
    · by_cases hb' : (lane8 (f l)).2 = t i
      · simp [ha, hb', h.not_cut i]
      · simp [ha, hb, hb', not_le.2 (lt_of_le_of_ne (hB hb) hb')]
  · have hb : ¬ Gone t i.val (lane8 (f l)).2 := fun ⟨j, hj, hx⟩ => ha ⟨j, hj, hx.trans h3⟩
    by_cases ha' : (lane8 (f l)).1 = t i
    · have hb' := lt_of_le_of_ne (hB hb) (hne ha')
      simp [ha', h.not_cut i, hb, not_le.2 hb']
    · simp [ha, ha', not_le.2 (lt_of_le_of_ne (hA ha) ha')]

theorem Top.iterate (h : Top f t cl cj) (i : ℕ) (hi : i < 15) :
    next^[i] (fun l => lane8 (f l)) = fun l => cut t i (lane8 (f l)) := by
  induction i with
  | zero => funext l; simp [cut, Gone]
  | succ i ih =>
    rw [Function.iterate_succ_apply', ih (by omega)]
    exact h.next_cut ⟨i, by omega⟩ (by simpa using (by omega : i < 14))

/-- THE ROUNDS: round `i` finds the `i`-th of the fifteen. -/
theorem Top.rounds (h : Top f t cl cj) (i : Fin 15) : vmax (next^[i.val] (fun l => lane8 (f l))) = t i := by
  rw [h.iterate i.val i.isLt]; exact h.vmax_cut i

end

end Cert.Row

end
-- ==== Proof.SoftMath.lean ====
/-
  The log-softmax of one row, two ways: over the row's thousand entries, fifteen of them kept, and by the counting that
  adds 984 zeros at once.
-/
module

public import Idealize.ShloMosaic.PureOps.Ideal
public import Idealize.ShloMosaic.Lib.IdealHost
public import Mathlib.Data.EReal.Operations
public import Mathlib.Analysis.SpecialFunctions.Log.Basic

@[expose] public section

noncomputable section

namespace Cert.Row

open Idealize.ShloMosaic

theorem ofBits_neg_inf : Ideal.ofBits .f32 0xFF800000#32 = ⊥ := by
  have h1 : (0xFF800000#32).extractLsb' (8 + 23) 1 = 1#1 := by decide
  have h2 : ((0xFF800000#32).extractLsb' 23 8).toNat = 255 := by decide
  have h3 : ((0xFF800000#32).extractLsb' 0 23).toNat = 0 := by decide
  simp only [Ideal.ofBits, Ideal.ieee, h1, h2, h3]
  norm_num

/-- The float that counts the zeros. -/
theorem ofBits_984 : Ideal.ofBits .f32 0x44760000#32 = ((984 : ℝ) : EReal) := by
  have h1 : (0x44760000#32).extractLsb' (8 + 23) 1 = 0#1 := by decide
  have h2 : ((0x44760000#32).extractLsb' 23 8).toNat = 136 := by decide
  have h3 : ((0x44760000#32).extractLsb' 0 23).toNat = 7733248 := by decide
  simp only [Ideal.ofBits, Ideal.ieee, h1, h2, h3]
  norm_num

/-- `exp (y - m)` as a real, for `y` no larger than the real `m`. -/
def expAt (m : ℝ) (y : EReal) : ℝ := if y = ⊥ then 0 else Real.exp (y.toReal - m)

theorem ideal_exp_bot : Ideal.exp ⊥ = 0 := rfl

theorem ideal_exp_coe (r : ℝ) : Ideal.exp (r : EReal) = (Real.exp r : EReal) := rfl

theorem ideal_log_coe (r : ℝ) : Ideal.log (r : EReal) = if r ≤ 0 then ⊥ else (Real.log r : EReal) := rfl

theorem exp_sub (m : ℝ) {y : EReal} (hy : y ≠ ⊤) : Ideal.exp (y - (m : EReal)) = (expAt m y : EReal) := by
  induction y with
  | bot => simp [expAt, ideal_exp_bot]
  | top => exact absurd rfl hy
  | coe r => rw [← EReal.coe_sub, ideal_exp_coe]; simp [expAt]

theorem expAt_nonneg (m : ℝ) (y : EReal) : 0 ≤ expAt m y := by
  unfold expAt; split_ifs <;> positivity

theorem expAt_zero_pos (m : ℝ) : 0 < expAt m 0 := by
  unfold expAt; rw [if_neg (by simp)]; positivity

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The kernel's log-probability of the row's class: from its fifteen largest `t` and its class's logit `xl`. -/
def logpK (t : Fin 15 → EReal) (xl : EReal) : EReal :=
  xl - (max (max (t 0) xl) 0 + Ideal.log ((∑ i, Ideal.exp (t i - max (max (t 0) xl) 0)) + Ideal.exp (xl - max (max (t 0) xl) 0)
    + Ideal.ofBits .f32 0x44760000#32 * Ideal.exp (0 - max (max (t 0) xl) 0)))

/-- A log-softmax row at column `j`. -/
def logpR (w : Fin 1000 → EReal) (j : Fin 1000) : EReal :=
  (w j - Finset.univ.fold max ⊥ w) - Ideal.log (∑ k, Ideal.exp (w k - Finset.univ.fold max ⊥ w))

/-- The row with its class's entry `xl` and the fifteen at the columns `c` kept, the rest zero. -/
def kept (n : Fin 1000 → EReal) (l : Fin 1000) (xl : EReal) (c : Fin 15 → Fin 1000) (j : Fin 1000) : EReal :=
  if j = l then xl else if ∃ i, c i = j then n j else 0

section
variable {n : Fin 1000 → EReal} {l : Fin 1000} {xl : EReal} {c : Fin 15 → Fin 1000} {t : Fin 15 → EReal}

theorem fold_kept (hl : n l = 0) (ht : ∀ i, t i = n (c i)) (hanti : ∀ i, t i ≤ t 0) :
    Finset.univ.fold max ⊥ (kept n l xl c) = max (max (t 0) xl) 0 := by
  refine le_antisymm ((Finset.fold_max_le _).2 ⟨bot_le, fun j _ => ?_⟩) ?_
  · unfold kept
    split_ifs with h1 h2
    · exact (le_max_right _ _).trans (le_max_left _ _)
    · obtain ⟨i, rfl⟩ := h2
      rw [← ht]; exact (hanti i).trans ((le_max_left _ _).trans (le_max_left _ _))
    · exact le_max_right _ _
  · have h0 : (0 : EReal) ≤ Finset.univ.fold max ⊥ (kept n l xl c) := by
      have hc : (insert l (Finset.univ.image c)).card < (Finset.univ : Finset (Fin 1000)).card := by
        refine (Finset.card_insert_le _ _).trans_lt ?_
        have := Finset.card_image_le (s := (Finset.univ : Finset (Fin 15))) (f := c)
        simp only [Finset.card_univ, Fintype.card_fin] at this ⊢
        omega
      obtain ⟨j, -, hj⟩ := Finset.exists_mem_notMem_of_card_lt_card hc
      simp only [Finset.mem_insert, Finset.mem_image, Finset.mem_univ, true_and, not_or] at hj
      refine (Finset.le_fold_max _).2 (Or.inr ⟨j, Finset.mem_univ _, ?_⟩)
      unfold kept
      rw [if_neg hj.1, if_neg hj.2]
    refine max_le (max_le ?_ ?_) h0
    · by_cases h : c 0 = l
      · rw [ht, h, hl]; exact h0
      · refine (Finset.le_fold_max _).2 (Or.inr ⟨c 0, Finset.mem_univ _, ?_⟩)
        unfold kept
        rw [if_neg h, if_pos ⟨0, rfl⟩, ht]
    · refine (Finset.le_fold_max _).2 (Or.inr ⟨l, Finset.mem_univ _, ?_⟩)
      unfold kept
      rw [if_pos rfl]

theorem sum_kept (hl : n l = 0) (hc : Function.Injective c) (ht : ∀ i, t i = n (c i)) (E : EReal → ℝ) :
    ∑ j, E (kept n l xl c j) = ∑ i, E (t i) + E xl + 984 * E 0 := by
  have h1 : ∀ j, E (kept n l xl c j)
      = E 0 + (if j ∈ Finset.univ.image c then E (n j) - E 0 else 0) + (if j = l then E xl - E 0 else 0) := by
    intro j
    have hm : j ∈ Finset.univ.image c ↔ ∃ i, c i = j := by simp
    unfold kept
    simp only [hm]
    by_cases h : j = l
    · subst h
      simp [hl]
    · by_cases h' : ∃ i, c i = j
      · simp only [if_neg h, if_pos h']; ring
      · simp only [if_neg h, if_neg h']; ring
  simp only [h1, Finset.sum_add_distrib, Finset.sum_ite_mem, Finset.univ_inter, Finset.sum_ite_eq', Finset.mem_univ, if_true]
  rw [Finset.sum_image fun a _ b _ h => hc h]
  simp only [← ht, Finset.sum_sub_distrib, Finset.sum_const, Finset.card_univ, Fintype.card_fin, nsmul_eq_mul]
  push_cast
  ring

/-- The row's largest entry is real. -/
theorem exists_max (ht0 : t 0 ≠ ⊤) (hx : xl ≠ ⊤) : ∃ m : ℝ, max (max (t 0) xl) 0 = (m : EReal) := by
  have htop : max (max (t 0) xl) 0 ≠ ⊤ :=
    (max_lt (max_lt (lt_top_iff_ne_top.2 ht0) (lt_top_iff_ne_top.2 hx)) EReal.zero_lt_top).ne
  have hbot : max (max (t 0) xl) 0 ≠ ⊥ := fun h => by
    have : (0 : EReal) ≤ ⊥ := h ▸ le_max_right _ _
    simp at this
  exact ⟨_, (EReal.coe_toReal htop hbot).symm⟩

/-- The kernel's sum of exponentials is real. -/
theorem sumK (m : ℝ) (ht : ∀ i, t i ≠ ⊤) (hx : xl ≠ ⊤) :
    (∑ i, Ideal.exp (t i - (m : EReal))) + Ideal.exp (xl - (m : EReal)) + Ideal.ofBits .f32 0x44760000#32 * Ideal.exp (0 - (m : EReal))
      = ((∑ i, expAt m (t i) + expAt m xl + 984 * expAt m 0 : ℝ) : EReal) := by
  rw [Finset.sum_congr rfl fun i _ => exp_sub m (ht i), coe_sum, exp_sub m hx, exp_sub m EReal.zero_ne_top,
    ofBits_984, EReal.coe_add, EReal.coe_add, EReal.coe_mul]

/-- Its logarithm too. -/
theorem log_sumK (m : ℝ) : Ideal.log ((∑ i, expAt m (t i) + expAt m xl + 984 * expAt m 0 : ℝ) : EReal)
    = (Real.log (∑ i, expAt m (t i) + expAt m xl + 984 * expAt m 0) : EReal) := by
  have hpos : 0 < ∑ i, expAt m (t i) + expAt m xl + 984 * expAt m 0 := by
    have h1 : 0 ≤ ∑ i, expAt m (t i) := Finset.sum_nonneg fun i _ => expAt_nonneg _ _
    have h2 := expAt_nonneg m xl
    have h3 := expAt_zero_pos m
    linarith
  rw [ideal_log_coe, if_neg (not_le.2 hpos)]

/-- THE ROW: the two log-probabilities are one. -/
theorem logpR_eq (hl : n l = 0) (hc : Function.Injective c) (ht : ∀ i, t i = n (c i)) (hanti : ∀ i, t i ≤ t 0)
    (hn : ∀ j, n j ≠ ⊤) (hx : xl ≠ ⊤) : logpR (kept n l xl c) l = logpK t xl := by
  unfold logpR logpK
  rw [fold_kept hl ht hanti]
  have htt : ∀ i, t i ≠ ⊤ := fun i => by rw [ht]; exact hn _
  obtain ⟨m, hm⟩ := exists_max (htt 0) hx
  have hk : ∀ j, kept n l xl c j ≠ ⊤ := by
    intro j; unfold kept; split_ifs
    · exact hx
    · exact hn j
    · exact EReal.zero_ne_top
  have hkl : kept n l xl c l = xl := by unfold kept; rw [if_pos rfl]
  rw [hm, Finset.sum_congr rfl fun k _ => exp_sub m (hk k), coe_sum, sum_kept hl hc ht, sumK m htt hx, log_sumK, hkl]
  induction xl with
  | bot => rw [EReal.bot_sub, EReal.bot_sub, EReal.bot_sub]
  | top => exact absurd rfl hx
  | coe r => rw [← EReal.coe_add, ← EReal.coe_sub, ← EReal.coe_sub, ← EReal.coe_sub]; congr 1; ring

end

/-- The log-probability with a zero replaced by the small constant. -/
def guard (y : EReal) : EReal := if y = 0 then Ideal.ofBits .f32 0x2EDBE6FF#32 else y

theorem guard_logpK_ne_top {t : Fin 15 → EReal} {xl : EReal} (ht : ∀ i, t i ≠ ⊤) (hx : xl ≠ ⊤) : guard (logpK t xl) ≠ ⊤ := by
  obtain ⟨m, hm⟩ := exists_max (ht 0) hx
  unfold guard
  split_ifs
  · have h2 : ((0x2EDBE6FF#32).extractLsb' 23 8).toNat = 93 := by decide
    simp only [Ideal.ofBits, Ideal.ieee, h2]
    norm_num
  · unfold logpK
    rw [hm, sumK m ht hx, log_sumK, ← EReal.coe_add]
    induction xl with
    | bot => rw [EReal.bot_sub]; exact bot_ne_top
    | top => exact absurd rfl hx
    | coe r => rw [← EReal.coe_sub]; exact EReal.coe_ne_top _

/-- A finite sum without `+∞` is not `+∞`, and its negative is the sum of the negatives. -/
theorem neg_sum {ι : Type} (s : Finset ι) (f : ι → EReal) (hf : ∀ i, f i ≠ ⊤) :
    ∑ i ∈ s, f i ≠ ⊤ ∧ -∑ i ∈ s, f i = ∑ i ∈ s, -f i := by
  classical
  induction s using Finset.induction_on with
  | empty => simp
  | insert a s ha ih =>
    rw [Finset.sum_insert ha, Finset.sum_insert ha]
    refine ⟨EReal.add_ne_top (hf a) ih.1, ?_⟩
    rw [EReal.neg_add (Or.inr ih.1) (Or.inl (hf a)), sub_eq_add_neg, ih.2]

end Cert.Row

end
-- ==== Proof.KernelRow.lean ====
/-
  A block of the kernel, row by row: its registers are the lanes' two largest entries, its rounds those of Rounds.lean,
  and what it writes is the negative of its rows' sum.
-/
module

public import proofs.«01_k».proof.Proof.Gen.KernelIdeal.Frame
public import proofs.«01_k».proof.Proof.Rounds
public import proofs.«01_k».proof.Proof.SoftMath
public import Idealize.ShloMosaic.Lib.Pointwise
public import Idealize.ShloMosaic.Lib.Pipeline.ValueKit

@[expose] public section

set_option maxRecDepth 16384

noncomputable section

namespace Cert.Row

open Idealize.ShloMosaic Cert.KernelIdeal Cert.KernelIdeal.Gen

/-- The row `r` of two register blocks. -/
def Reads (r : Fin 1024) (f1 f2 : FVec Ideal S1024x128 .f32) (s : Regs) : Prop :=
  ∀ l : Fin 128, (f1 (ix2 r l), f2 (ix2 r l)) = s l

/-- The lanes' largest first register, row by row. -/
abbrev red (f1 : FVec Ideal S1024x128 .f32) : FVec Ideal S1024 .f32 :=
  multiReduction .maximumf [1] S1024 f1 0xFF800000#32 reduces_S1024x128_S1024 (.inl rfl) rfl

/-- The lanes that hold it. -/
abbrev hit (f1 : FVec Ideal S1024x128 .f32) : IVec S1024x128 1 :=
  cmpf .oeq f1 (broadcastTo S1024x128 (shapeCast S1024x1 (red f1) shapeCasts_S1024_S1024x1) broadcasts_S1024x1_S1024x128)

theorem Reads.red {r : Fin 1024} {f1 f2 : FVec Ideal S1024x128 .f32} {s : Regs} (h : Reads r f1 f2 s) :
    red f1 (ix1 r) = vmax s := by
  pointwise [Row.red]
  rw [ofBits_neg_inf]
  exact congrArg (Finset.univ.fold max ⊥) (funext fun l => congrArg Prod.fst (h l))

theorem Reads.step {r : Fin 1024} {f1 f2 : FVec Ideal S1024x128 .f32} {s : Regs} (h : Reads r f1 f2 s) :
    Reads r (select (hit f1) f2 f1) (select (hit f1) (broadcast S1024x128 (Scalar.ofBits .f32 0xFF800000#32)) f2) (next s) := by
  intro l
  have hr := h.red
  pointwise [hit, Row.red] at hr ⊢
  rw [hr, ofBits_neg_inf]
  have hl := h l
  have h1 : f1 (ix2 r l) = (s l).1 := congrArg Prod.fst hl
  have h2 : f2 (ix2 r l) = (s l).2 := congrArg Prod.snd hl
  unfold next
  rw [h1, h2]
  split_ifs <;> rfl

/-- The row `r` of the block, its class's entry zero, and `-∞` past its thousand entries. -/
def lanes (x : Fin 1000 → EReal) (l : Fin 1000) (i : Fin 128) (j : Fin 8) : EReal :=
  if h : j.val * 128 + i.val < 1000 then (if (⟨j.val * 128 + i.val, h⟩ : Fin 1000) = l then 0 else x ⟨j.val * 128 + i.val, h⟩) else ⊥

section
variable {v0 : Vec Ideal S1024x1000 .f32} {v1 : Vec Ideal S1x1x1024 .i32} {r : Fin 1024} {l : Fin 1000}

theorem pay1_apply (hl : v1 (ix3 0 0 r) = BitVec.ofNat 32 l.val) (c : Fin 1000) :
    k0_pay1 v1 (ix2 r c) = if c = l then 1#1 else 0#1 := by
  pointwise [k0_pay1]
  rw [hl]
  have h : BitVec.ofNat 32 c.val = BitVec.ofNat 32 l.val ↔ c = l := by
    constructor
    · intro h
      have := congrArg BitVec.toNat h
      simp only [BitVec.toNat_ofNat] at this
      exact Fin.ext (by omega)
    · rintro rfl; rfl
  by_cases hc : c = l
  · simp [IntOp.cmpi, hc]
  · have h' : (BitVec.ofNat 32 c.val == BitVec.ofNat 32 l.val) = false := beq_eq_false_iff_ne.2 fun e => hc (h.1 e)
    simp [IntOp.cmpi, hc, h']

theorem pay2_apply (hl : v1 (ix3 0 0 r) = BitVec.ofNat 32 l.val) :
    k0_pay2 v0 v1 (ix1 r) = v0 (ix2 r l) := by
  pointwise [k0_pay2]
  rw [Finset.sum_eq_single l]
  · rw [pay1_apply hl, if_pos rfl]; rfl
  · intro c _ hc
    rw [pay1_apply hl, if_neg hc]; rfl
  · intro h; exact absurd (Finset.mem_univ _) h

theorem pay3_apply (hl : v1 (ix3 0 0 r) = BitVec.ofNat 32 l.val) (i : Fin 128) (j : Fin 8) :
    k0_pay3 v0 v1 (ix2 r ⟨j.val * 128 + i.val, by omega⟩) = lanes (fun c => v0 (ix2 r c)) l i j := by
  pointwise [k0_pay3]
  unfold lanes
  split_ifs with h h'
  · rw [pay1_apply hl, if_pos h']; rfl
  · rw [pay1_apply hl, if_neg h']; rfl
  · exact ofBits_neg_inf

/-- The eight chunks of the padded row. -/
theorem chunks_apply (c : Fin 128) :
    k0_pay4 v0 v1 (ix2 r c) = k0_pay3 v0 v1 (ix2 r ⟨0 * 128 + c.val, by omega⟩)
    ∧ k0_pay5 v0 v1 (ix2 r c) = k0_pay3 v0 v1 (ix2 r ⟨1 * 128 + c.val, by omega⟩)
    ∧ k0_pay6 v0 v1 (ix2 r c) = k0_pay3 v0 v1 (ix2 r ⟨2 * 128 + c.val, by omega⟩)
    ∧ k0_pay7 v0 v1 (ix2 r c) = k0_pay3 v0 v1 (ix2 r ⟨3 * 128 + c.val, by omega⟩)
    ∧ k0_pay8 v0 v1 (ix2 r c) = k0_pay3 v0 v1 (ix2 r ⟨4 * 128 + c.val, by omega⟩)
    ∧ k0_pay9 v0 v1 (ix2 r c) = k0_pay3 v0 v1 (ix2 r ⟨5 * 128 + c.val, by omega⟩)
    ∧ k0_pay10 v0 v1 (ix2 r c) = k0_pay3 v0 v1 (ix2 r ⟨6 * 128 + c.val, by omega⟩)
    ∧ k0_pay11 v0 v1 (ix2 r c) = k0_pay3 v0 v1 (ix2 r ⟨7 * 128 + c.val, by omega⟩) := by
  refine ⟨?_, ?_, ?_, ?_, ?_, ?_, ?_, ?_⟩ <;>
    pointwise [k0_pay4, k0_pay5, k0_pay6, k0_pay7, k0_pay8, k0_pay9, k0_pay10, k0_pay11]

/-- The registers before the rounds. -/
theorem reads_start (hl : v1 (ix3 0 0 r) = BitVec.ofNat 32 l.val) :
    Reads r (k0_pay18 v0 v1) (k0_pay19 v0 v1) fun i => lane8 (lanes (fun c => v0 (ix2 r c)) l i) := by
  intro c
  obtain ⟨e0, e1, e2, e3, e4, e5, e6, e7⟩ := chunks_apply (v0 := v0) (v1 := v1) (r := r) c
  have f0 := e0.trans (pay3_apply hl c 0)
  have f1 := e1.trans (pay3_apply hl c 1)
  have f2 := e2.trans (pay3_apply hl c 2)
  have f3 := e3.trans (pay3_apply hl c 3)
  have f4 := e4.trans (pay3_apply hl c 4)
  have f5 := e5.trans (pay3_apply hl c 5)
  have f6 := e6.trans (pay3_apply hl c 6)
  have f7 := e7.trans (pay3_apply hl c 7)
  pointwise [k0_pay18, k0_pay19, k0_pay12, k0_pay13, k0_pay14, k0_pay15, k0_pay16, k0_pay17]
  rw [f0, f1, f2, f3, f4, f5, f6, f7]
  simp only [lane8, merge2, sort2]
  congr!
end

theorem Reads.next {r : Fin 1024} {f1 f2 : FVec Ideal S1024x128 .f32} {s : Regs} {k : ℕ} (h : Reads r f1 f2 (next^[k] s)) :
    Reads r (select (hit f1) f2 f1) (select (hit f1) (broadcast S1024x128 (Scalar.ofBits .f32 0xFF800000#32)) f2)
      (Row.next^[k + 1] s) := by
  rw [Function.iterate_succ_apply']; exact h.step

/-- A reading of a vector of fifteen, entry by entry. -/
theorem fifteen {α : Type} {a0 a1 a2 a3 a4 a5 a6 a7 a8 a9 a10 a11 a12 a13 a14 : α} (p : α → EReal) (g : ℕ → EReal)
    (e0 : p a0 = g 0) (e1 : p a1 = g 1) (e2 : p a2 = g 2) (e3 : p a3 = g 3) (e4 : p a4 = g 4) (e5 : p a5 = g 5) (e6 : p a6 = g 6) (e7 : p a7 = g 7) (e8 : p a8 = g 8) (e9 : p a9 = g 9) (e10 : p a10 = g 10) (e11 : p a11 = g 11) (e12 : p a12 = g 12) (e13 : p a13 = g 13) (e14 : p a14 = g 14) (k : Fin 15) :
    p ((![a0, a1, a2, a3, a4, a5, a6, a7, a8, a9, a10, a11, a12, a13, a14] : Fin 15 → α) k) = g k.val := by
  fin_cases k <;> assumption

/-- The fifteen vectors the rounds of a block find. -/
def found (x : Vec Ideal S1024x1000 .f32) (y : Vec Ideal S1x1x1024 .i32) : Fin 15 → FVec Ideal S1024 .f32 :=
  ![k0_pay20 x y,
    k0_pay24 (k0_pay18 x y) (k0_pay19 x y) (k0_pay21 x y),
    k0_pay28 (k0_pay18 x y) (k0_pay19 x y) (k0_pay21 x y),
    k0_pay32 (k0_pay18 x y) (k0_pay19 x y) (k0_pay21 x y),
    k0_pay36 (k0_pay18 x y) (k0_pay19 x y) (k0_pay21 x y),
    k0_pay40 (k0_pay18 x y) (k0_pay19 x y) (k0_pay21 x y),
    k0_pay44 (k0_pay18 x y) (k0_pay19 x y) (k0_pay21 x y),
    k0_pay48 (k0_pay18 x y) (k0_pay19 x y) (k0_pay21 x y),
    k0_pay52 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay56 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay60 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay64 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay68 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay71 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)),
    k0_pay72 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))]

theorem found_apply (x : Vec Ideal S1024x1000 .f32) (y : Vec Ideal S1x1x1024 .i32) {r : Fin 1024} {l : Fin 1000}
    (hl : y (ix3 0 0 r) = BitVec.ofNat 32 l.val) (i : Fin 15) :
    found x y i (ix1 r) = vmax (next^[i.val] fun i => lane8 (lanes (fun c => x (ix2 r c)) l i)) := by
  have h0 := reads_start (v0 := x) hl
  generalize (fun i => lane8 (lanes (fun c => x (ix2 r c)) l i)) = s at h0 ⊢
  have h1 : Reads r (k0_pay22 (k0_pay18 x y) (k0_pay19 x y) (k0_pay21 x y)) (k0_pay23 (k0_pay19 x y) (k0_pay21 x y)) (next^[1] s) := Reads.next (k := 0) h0
  have h2 : Reads r (k0_pay26 (k0_pay18 x y) (k0_pay19 x y) (k0_pay21 x y)) (k0_pay27 (k0_pay18 x y) (k0_pay19 x y) (k0_pay21 x y)) (next^[2] s) := h1.next
  have h3 : Reads r (k0_pay30 (k0_pay18 x y) (k0_pay19 x y) (k0_pay21 x y)) (k0_pay31 (k0_pay18 x y) (k0_pay19 x y) (k0_pay21 x y)) (next^[3] s) := h2.next
  have h4 : Reads r (k0_pay34 (k0_pay18 x y) (k0_pay19 x y) (k0_pay21 x y)) (k0_pay35 (k0_pay18 x y) (k0_pay19 x y) (k0_pay21 x y)) (next^[4] s) := h3.next
  have h5 : Reads r (k0_pay38 (k0_pay18 x y) (k0_pay19 x y) (k0_pay21 x y)) (k0_pay39 (k0_pay18 x y) (k0_pay19 x y) (k0_pay21 x y)) (next^[5] s) := h4.next
  have h6 : Reads r (k0_pay42 (k0_pay18 x y) (k0_pay19 x y) (k0_pay21 x y)) (k0_pay43 (k0_pay18 x y) (k0_pay19 x y) (k0_pay21 x y)) (next^[6] s) := h5.next
  have h7 : Reads r (k0_pay46 (k0_pay18 x y) (k0_pay19 x y) (k0_pay21 x y)) (k0_pay47 (k0_pay18 x y) (k0_pay19 x y) (k0_pay21 x y)) (next^[7] s) := h6.next
  have h8 : Reads r (k0_pay50 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (k0_pay51 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (next^[8] s) := h7.next
  have h9 : Reads r (k0_pay54 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (k0_pay55 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (next^[9] s) := h8.next
  have h10 : Reads r (k0_pay58 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (k0_pay59 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (next^[10] s) := h9.next
  have h11 : Reads r (k0_pay62 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (k0_pay63 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (next^[11] s) := h10.next
  have h12 : Reads r (k0_pay66 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (k0_pay67 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y))) (next^[12] s) := h11.next
  have h13 := h12.next
  have h14 := h13.next
  have e0 : k0_pay20 x y (ix1 r) = vmax (next^[0] s) := h0.red
  have e1 : k0_pay24 (k0_pay18 x y) (k0_pay19 x y) (k0_pay21 x y) (ix1 r) = vmax (next^[1] s) := h1.red
  have e2 : k0_pay28 (k0_pay18 x y) (k0_pay19 x y) (k0_pay21 x y) (ix1 r) = vmax (next^[2] s) := h2.red
  have e3 : k0_pay32 (k0_pay18 x y) (k0_pay19 x y) (k0_pay21 x y) (ix1 r) = vmax (next^[3] s) := h3.red
  have e4 : k0_pay36 (k0_pay18 x y) (k0_pay19 x y) (k0_pay21 x y) (ix1 r) = vmax (next^[4] s) := h4.red
  have e5 : k0_pay40 (k0_pay18 x y) (k0_pay19 x y) (k0_pay21 x y) (ix1 r) = vmax (next^[5] s) := h5.red
  have e6 : k0_pay44 (k0_pay18 x y) (k0_pay19 x y) (k0_pay21 x y) (ix1 r) = vmax (next^[6] s) := h6.red
  have e7 : k0_pay48 (k0_pay18 x y) (k0_pay19 x y) (k0_pay21 x y) (ix1 r) = vmax (next^[7] s) := h7.red
  have e8 : k0_pay52 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[8] s) := h8.red
  have e9 : k0_pay56 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[9] s) := h9.red
  have e10 : k0_pay60 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[10] s) := h10.red
  have e11 : k0_pay64 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[11] s) := h11.red
  have e12 : k0_pay68 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[12] s) := h12.red
  have e13 : k0_pay71 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[13] s) := h13.red
  have e14 : k0_pay72 (k0_pay46 (k0_pay18 x y) (k0_pay19 x y) (k0_pay21 x y)) (k0_pay47 (k0_pay18 x y) (k0_pay19 x y) (k0_pay21 x y)) (k0_pay48 (k0_pay18 x y) (k0_pay19 x y) (k0_pay21 x y)) (ix1 r) = vmax (next^[14] s) := h14.red
  exact fifteen (fun v : FVec Ideal S1024 .f32 => v (ix1 r)) (fun k => vmax (next^[k] s)) e0 e1 e2 e3 e4 e5 e6 e7 e8 e9 e10 e11 e12 e13 e14 i

/-- The last payload: the rows' guarded log-probabilities, summed and negated. -/
theorem pay73_apply (xl a0 a1 a2 a3 a4 a5 a6 a7 a8 a9 a10 a11 a12 a13 a14 : FVec Ideal S1024 .f32) (i : S1x1x1.Idx) :
    k0_pay73 xl a0 a1 a2 a3 a4 a5 a6 a7 a8 a9 a10 a11 a12 a13 a14 i
      = 0 - ∑ r : Fin 1024, guard (logpK (fun k => (![a0, a1, a2, a3, a4, a5, a6, a7, a8, a9, a10, a11, a12, a13, a14] : Fin 15 → FVec Ideal S1024 .f32) k (ix1 r)) (xl (ix1 r))) := by
  pointwise [k0_pay73]
  refine congrArg (0 - ·) (Finset.sum_congr rfl fun r _ => ?_)
  show guard (_ - (_ + Ideal.log (_ + _ + _))) = guard _
  unfold logpK
  congr 4

/-- What a block of the kernel writes, from its rows' classes. -/
theorem out_apply (y : Vec Ideal S1x1x1024 .i32) (x : Vec Ideal S1024x1000 .f32) (l : Fin 1024 → Fin 1000)
    (hl : ∀ r, y (ix3 0 0 r) = BitVec.ofNat 32 (l r).val) (i : S1x1x1.Idx) :
    out0_2 y x i = 0 - ∑ r : Fin 1024, guard (logpK
      (fun k => vmax (next^[k.val] fun i => lane8 (lanes (fun c => x (ix2 r c)) (l r) i))) (x (ix2 r (l r)))) := by
  unfold_out out0_2
  frame_out
  rw [pay73_apply]
  refine congrArg (0 - ·) (Finset.sum_congr rfl fun r _ => ?_)
  rw [pay2_apply (hl r)]
  refine congrArg (fun t => guard (logpK t _)) (funext fun k => ?_)
  exact found_apply x y (hl r) k

end Cert.Row

end
-- ==== Proof.KernelValue.lean ====
/-
  The kernel's result array after a run: the mean over the rows, block by block.
-/
module

public import proofs.«01_k».proof.Defs
public import proofs.«01_k».proof.Proof.Gen.KernelIdeal.Frame
public import proofs.«01_k».proof.Proof.KernelRow
public import Idealize.ShloMosaic.Lib.Pointwise
public import Idealize.ShloMosaic.Lib.Pipeline.ValueKit
public import Idealize.ShloMosaic.Lib.Claim

@[expose] public section

set_option maxRecDepth 16384

noncomputable section

namespace Cert.Row

open Idealize.ShloMosaic Idealize.ShloMosaic.TcCoe Idealize.SL.Sem
open Cert.KernelIdeal Cert.KernelIdeal.Gen

/-- What the kernel finds for one row: the guarded log-probability of the row's label. -/
def rowK (x : Fin 1000 → EReal) (l : Fin 1000) : EReal :=
  guard (logpK (fun k => vmax (next^[k.val] fun i => lane8 (lanes x l i))) (x l))

/-- Row `r` of block `b`. -/
def rowOf (b : Fin 16) (r : Fin 1024) : Fin 16384 := ⟨b.val * 1024 + r.val, by omega⟩

variable (m : (ℓ : Loc nD τ sig) → Buf (Elt Ideal) ℓ)

theorem idx : ∀ t : Fin cfg0.N, (cfg0.win 0).index t = ![t.val, 0, 0] ∧ (cfg0.win 1).index t = ![t.val, 0]
    ∧ (cfg0.win 2).index t = ![t.val, 0, 0] := by decide +kernel

/-- The blocks' results, one per grid point. -/
def parts (x : Vec Ideal S16384x1000 .f32) (l : Fin 16384 → Fin 1000) : Vec Ideal S16x1x1 .f32 :=
  fun i => 0 - ∑ r : Fin 1024, rowK (fun c => x (ix2 (rowOf (i 0) r) c)) (l (rowOf (i 0) r))

theorem V_labels (c : Dev nD) (a : Fin 16) (r : Fin 1024) :
    (V m c main_v0 : Vec Ideal S16x1x1024 .i32) (ix3 a 0 r)
      = (m ((c : Thread nD τ).loc main_arg1) : Vec Ideal S16384 .i32) (ix1 (rowOf a r)) := by
  have e : (V m c main_v0 : Vec Ideal S16x1x1024 .i32)
      = shapeCast S16x1x1024 (m ((c : Thread nD τ).loc main_arg1) : Vec Ideal S16384 .i32) shapeCasts_S16384_S16x1x1024 := by
    show StableHlo.after hostOps0 _ (Proc.devRef .tc main_v0) = _
    after_results
    rfl
  rw [e]
  pointwise
  rfl

theorem labels_read (c : Dev nD) (t : Fin cfg0.N) (r : Fin 1024) :
    (iblk m c 0 t : Vec Ideal S1x1x1024 .i32) (ix3 0 0 r) = (V m c main_v0 : Vec Ideal S16x1x1024 .i32) (ix3 t 0 r) := by
  blk_ext [iblk, (idx t).1]

theorem logits_read (c : Dev nD) (t : Fin cfg0.N) (r : Fin 1024) (k : Fin 1000) :
    (iblk m c 1 t : Vec Ideal S1024x1000 .f32) (ix2 r k)
      = (m ((c : Thread nD τ).loc main_arg0) : Vec Ideal S16384x1000 .f32) (ix2 (rowOf t r) k) := by
  refine Eq.trans ?_ (congrFun (V_main_arg0 m c) _)
  blk_ext [iblk, (idx t).2.1, rowOf]

theorem arr_after (c : Dev nD) (l : Fin 16384 → Fin 1000)
    (hl : ∀ r, (m ((c : Thread nD τ).loc main_arg1) : Vec Ideal S16384 .i32) (ix1 r) = BitVec.ofNat 32 (l r).val) :
    (dats m 0 c).arrAt 2 (cfgs 0).N = parts (m ((c : Thread nD τ).loc main_arg0)) l := by
  refine (dats m 0 c).arrAt_eq_of_covers 2 _ (by decide +kernel) fun t hf y => ?_
  blk_simp
  rw [after0_2]
  rw [out_apply (iblk m c 0 t) (iblk m c 1 t) (fun r => l (rowOf t r)) (fun r =>
    (labels_read m c t r).trans ((V_labels m c t r).trans (hl _)))]
  have hy : ((((cfg0.win 2).blk t).view.emb y) 0 : ℕ) = t.val := by
    blk_simp [(idx t).2.2]
  have hy' : (((win0_2.blk t).view.emb y) 0 : Fin 16) = t := Fin.ext hy
  unfold parts rowK
  simp only [hy', logits_read]

/-- The kernel's result. -/
def meanK (x : Vec Ideal S16384x1000 .f32) (l : Fin 16384 → Fin 1000) : Vec Ideal S_ .f32 :=
  (Host.divf (F := Ideal) (Host.reduceAdd (F := Ideal) (parts x l) (constant S_ .f32 0x00000000#32) reducesTo_S16x1x1_S_d0_1_2 h_S_)
    (constant S_ .f32 0x46800000#32) : FVec Ideal S_ .f32)

theorem run_value (ρ : Dev nD → PrngReg) (l : Fin 16384 → Fin 1000)
    (hl : ∀ (c : Dev nD) r, (m ((c : Thread nD τ).loc main_arg1) : Vec Ideal S16384 .i32) (ix1 r) = BitVec.ofNat 32 (l r).val) :
    θ_run (defs (F := Ideal)) (onTc (τ := τ) (main (F := Ideal))) ⟨m, fun _ => 0, ρ⟩ (fun r => ∀ c : Dev nD,
      r.2.mem ((c.tc : Thread nD τ).loc main_v3) = meanK (m ((c : Thread nD τ).loc main_arg0)) l
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono ?_ (θ_run_and (run_main m ρ) (unchanged m ρ))
  rintro r ⟨h, hu⟩
  refine fun c => ⟨?_, hu c⟩
  rw [(h c).2 main_v3 (Pipeline.mem_restRefs_of main_v3 (by decide) (by decide))]
  unfold Pipeline.afterTail₀
  have e : Pipeline.withArrays (cfgs 0).spec c (V0 m c) (fun w => (dats m 0 c).arrAt w (cfgs 0).N)
      (Proc.devRef .tc main_v1) = parts (m ((c : Thread nD τ).loc main_arg0)) l :=
    (Pipeline.withArrays_arr spec0 (by decide) c (V0 m c) _ 2).trans (arr_after m c l (hl c))
  generalize Pipeline.withArrays (cfgs 0).spec c (V0 m c) (fun w => (dats m 0 c).arrAt w (cfgs 0).N) = W at e
  show StableHlo.after hostOps1 W (Proc.devRef .tc main_v3) = _
  after_results
  rw [e]
  rfl

/-- The same as sums over rows. -/
theorem meanK_apply (x : Vec Ideal S16384x1000 .f32) (l : Fin 16384 → Fin 1000) (i : S_.Idx) :
    meanK x l i = Ideal.div (∑ b : Fin 16, (0 - ∑ r : Fin 1024, rowK (fun c => x (ix2 (rowOf b r) c)) (l (rowOf b r))))
      (Ideal.ofBits .f32 0x46800000#32) := by
  unfold meanK
  pointwise
  simp only [Fin.sum_univ_one, Fin.isValue]
  rfl

end Cert.Row

end
-- ==== Proof.Places.lean ====
/-
  Where the reference's indexed updates land, and what its indexed read reads: the entry whose row and column the two
  index words name.
-/
module

public import proofs.«01_k».proof.ReferenceIdeal
public import Idealize.ShloMosaic.Lib.Pointwise
public import Idealize.ShloMosaic.Lib.Routing.OpsPair
public import Idealize.ShloMosaic.Lib.Routing.OpsSet
public import Idealize.ShloMosaic.Lib.Pointwise.IndexBridge

@[expose] public section

set_option maxRecDepth 16384

noncomputable section

namespace Cert.Ref

open Idealize.ShloMosaic Cert.ReferenceIdeal

variable [Cert.ReferenceIdeal.Facts]

/-- The one-per-row update of row `a` lands at the entry its two words name. -/
theorem lands_label (idx : IVec S16384x2 32) (a r : Fin 16384) (c : Fin 1000) :
    (scatter_S16384x1000_S16384x2_S16384_n_01_01_1 : ScatterDims S16384x1000 S16384x2 S16384).resultIdx? (ix1 a) idx = some (ix2 r c)
      ↔ (idx (ix2 a 0)).toInt = r.val ∧ (idx (ix2 a 1)).toInt = c.val := by
  rw [Routing.resultIdx?_eq_some]
  have hm : ∀ q : Fin 2, q ∈ (scatter_S16384x1000_S16384x2_S16384_n_01_01_1 : ScatterDims S16384x1000 S16384x2 S16384).scatterDimsToOperandDims := by
    intro q; show q ∈ [0, 1]; fin_cases q <;> simp
  have hs : ∀ q : Fin 2, (scatter_S16384x1000_S16384x2_S16384_n_01_01_1 : ScatterDims S16384x1000 S16384x2 S16384).start (ix1 a) idx q = (idx (ix2 a q)).toInt := by
    intro q
    unfold ScatterDims.start
    rw [dif_pos (hm q)]
    congr 2
    funext b
    match q, b with
    | ⟨0, _⟩, ⟨0, _⟩ => rfl
    | ⟨0, _⟩, ⟨1, _⟩ => rfl
    | ⟨1, _⟩, ⟨0, _⟩ => rfl
    | ⟨1, _⟩, ⟨1, _⟩ => rfl
  have hw : ∀ q : Fin 2, (scatter_S16384x1000_S16384x2_S16384_n_01_01_1 : ScatterDims S16384x1000 S16384x2 S16384).window (ix1 a) q = 0 := by
    intro q
    match q with
    | ⟨0, _⟩ => rfl
    | ⟨1, _⟩ => rfl
  constructor
  · intro h
    have h0 := h 0
    have h1 := h 1
    rw [hs, hw] at h0 h1
    exact ⟨by simpa using h0, by simpa using h1⟩
  · rintro ⟨h0, h1⟩ q
    rw [hs, hw]
    match q with
    | ⟨0, _⟩ => exact (by simpa using h0)
    | ⟨1, _⟩ => exact (by simpa using h1)

/-- The row's label read out of the matrix, its two words naming row `r` and column `c`. -/
theorem gather_label {α : Type} (x : S16384x1000.Idx → α) (idx : IVec S16384x2 32) (a r : Fin 16384) (c : Fin 1000)
    (h0 : (idx (ix2 a 0)).toInt = r.val) (h1 : (idx (ix2 a 1)).toInt = c.val) :
    Host.gather gather_S16384x1000_S16384x2_S16384_n_01_n_n_01_1_11 x idx (ix1 a) = x (ix2 r c) := by
  unfold Host.gather
  congr 1
  have hm : ∀ q : Fin 2, q ∈ (gather_S16384x1000_S16384x2_S16384_n_01_n_n_01_1_11 : GatherDims S16384x1000 S16384x2 S16384).startIndexMap := by
    intro q; show q ∈ [0, 1]; fin_cases q <;> simp
  have hs : ∀ q : Fin 2, (gather_S16384x1000_S16384x2_S16384_n_01_n_n_01_1_11 : GatherDims S16384x1000 S16384x2 S16384).start (ix1 a) idx q
      = min (idx (ix2 a q)).toInt.toNat (S16384x1000.size q - 1) := by
    intro q
    unfold GatherDims.start
    rw [dif_pos (hm q)]
    congr 1
    · congr 3
      funext b
      match q, b with
      | ⟨0, _⟩, ⟨0, _⟩ => rfl
      | ⟨0, _⟩, ⟨1, _⟩ => rfl
      | ⟨1, _⟩, ⟨0, _⟩ => rfl
      | ⟨1, _⟩, ⟨1, _⟩ => rfl
    · match q with
      | ⟨0, _⟩ => rfl
      | ⟨1, _⟩ => rfl
  have hv : ∀ q : Fin 2, ((gather_S16384x1000_S16384x2_S16384_n_01_n_n_01_1_11 : GatherDims S16384x1000 S16384x2 S16384).operandIdx (ix1 a) idx q).val
      = min (idx (ix2 a q)).toInt.toNat (S16384x1000.size q - 1) := by
    intro q
    rw [← hs q]
    match q with
    | ⟨0, _⟩ => rfl
    | ⟨1, _⟩ => rfl
  funext q
  apply Fin.ext
  rw [hv]
  match q with
  | ⟨0, _⟩ =>
    show min (idx (ix2 a 0)).toInt.toNat (16384 - 1) = r.val
    omega
  | ⟨1, _⟩ =>
    show min (idx (ix2 a 1)).toInt.toNat (1000 - 1) = c.val
    omega

/-- Update `k` of row `a` lands at the entry its two words name. -/
theorem lands_low (idx : IVec S16384x985x2 32) (a r : Fin 16384) (k : Fin 985) (c : Fin 1000) :
    (scatter_S16384x1000_S16384x985x2_S16384x985_n_01_01_2 : ScatterDims S16384x1000 S16384x985x2 S16384x985).resultIdx? (ix2 a k) idx = some (ix2 r c)
      ↔ (idx (ix3 a k 0)).toInt = r.val ∧ (idx (ix3 a k 1)).toInt = c.val := by
  simp only [ix2_eq_valueIdx, ix3_eq_valueIdx]
  exact Routing.scatter_lands2 _ rfl rfl rfl idx a k r c

end Cert.Ref

end
-- ==== Proof.Sorting.lean ====
/-
  The sort of one row: the order in which a row's entries stand after it, and that it is nondecreasing.
-/
module

public import proofs.«01_k».proof.ReferenceIdeal
public import proofs.«01_k».proof.Pre_fifteen_apart
public import Idealize.ShloMosaic.Lib.Pointwise
public import Idealize.ShloMosaic.Lib.SortFacts

@[expose] public section

set_option maxRecDepth 16384

noncomputable section

namespace Cert.Row

open Idealize.ShloMosaic

open Classical in
/-- The column whose entry stands at place `k` once the row is sorted, lowest first, equal entries in column order. -/
def order (n : Fin 1000 → EReal) : Fin 1000 → Fin 1000 := sortedFrom fun k k' => decide (n k < n k')

theorem order_injective (n : Fin 1000 → EReal) : Function.Injective (order n) := sortedFrom_injective _

theorem order_surjective (n : Fin 1000 → EReal) : Function.Surjective (order n) := sortedFrom_surjective _

theorem order_le (n : Fin 1000 → EReal) {i j : Fin 1000} (h : i ≤ j) : n (order n i) ≤ n (order n j) := by
  classical
  rcases h.eq_or_lt with rfl | h
  · exact le_refl _
  have := sortedFrom_noInversion (fun k k' => decide (n k < n k')) (fun k k' => decide (n k < n k'))
    (fun a b h => by simp only [decide_eq_true_eq, decide_eq_false_iff_not, not_lt] at h ⊢; exact h.le) (fun _ _ h => h)
    (fun a b c h h' => by simp only [decide_eq_false_iff_not, not_lt] at h h' ⊢; exact h'.trans h) i j h
  simp only [decide_eq_false_iff_not, not_lt] at this
  unfold order
  convert this using 3

/-- The columns of the fifteen largest entries, largest first. -/
def topCol (n : Fin 1000 → EReal) (i : Fin 15) : Fin 1000 := order n ⟨999 - i.val, by omega⟩

theorem topCol_injective (n : Fin 1000 → EReal) : Function.Injective (topCol n) := by
  intro i j h
  have := congrArg Fin.val (order_injective n h)
  simp only at this
  apply Fin.ext
  omega

/-- A column is among the 985 lowest or among the fifteen largest, and not both. -/
theorem low_iff (n : Fin 1000 → EReal) (j : Fin 1000) :
    (∃ k : Fin 985, order n (k.castLE (by decide)) = j) ↔ ¬ ∃ i, topCol n i = j := by
  constructor
  · rintro ⟨k, rfl⟩ ⟨i, hi⟩
    have := congrArg Fin.val (order_injective n hi)
    simp only [Fin.val_castLE] at this
    omega
  · intro h
    obtain ⟨k, rfl⟩ := order_surjective n j
    by_cases hk : k.val < 985
    · exact ⟨⟨k.val, hk⟩, rfl⟩
    · refine absurd ⟨⟨999 - k.val, by omega⟩, ?_⟩ h
      unfold topCol
      congr 1
      apply Fin.ext
      show 999 - (999 - k.val) = k.val
      omega

/-- Every other entry is at most the fifteenth largest. -/
theorem rest_le (n : Fin 1000 → EReal) (j : Fin 1000) : (∃ i, topCol n i = j) ∨ n j ≤ n (topCol n 14) := by
  by_cases h : ∃ i, topCol n i = j
  · exact Or.inl h
  · obtain ⟨k, rfl⟩ := (low_iff n j).2 h
    refine Or.inr (order_le n ?_)
    rw [Fin.le_def]
    show k.val ≤ 999 - 14
    omega

/-- The comparison by which the rows are sorted is that of the values. -/
theorem cmp_ref (l r : Ideal .f32 × BitVec 32) :
    (Cert.ReferenceIdeal.comparator_f32_i32_d1 (F := Ideal) l r == 1#1) = decide ((l.1 : EReal) < r.1) := by
  have e : ∀ x : Ideal .f32, Scalar.select (FloatOps.cmpf .une x x) (FloatOps.ofBits .f32 0x7FC00000#32 : Ideal .f32)
      (Scalar.select (FloatOps.cmpf .oeq x (FloatOps.ofBits .f32 0x00000000#32)) (FloatOps.ofBits .f32 0x00000000#32) x) = x := by
    intro x
    pointwise
    split_ifs with h h'
    · exact absurd rfl h
    · exact h'.symm
    · rfl
  unfold Cert.ReferenceIdeal.comparator_f32_i32_d1
  simp only [e]
  rw [Ideal.cmpfTotal_def]
  show (BitVec.ofBool (decide ((l.1 : EReal) < r.1)) == 1#1) = _
  cases h : decide ((l.1 : EReal) < r.1) <;> rfl

theorem cmp_pre : @Cert.Pre_fifteen_apart.comparator_f32_i32_d1 Ideal _ = @Cert.ReferenceIdeal.comparator_f32_i32_d1 Ideal _ := rfl

/-- Both results of the sort, read at place `k` of row `r`. -/
theorem sort_apply (x : FVec Ideal Cert.ReferenceIdeal.S16384x1000 .f32) (y : IVec Cert.ReferenceIdeal.S16384x1000 32)
    (r : Fin 16384) (k : Fin 1000) :
    (Host.sort2 Cert.ReferenceIdeal.S16384x1000 1 (Cert.ReferenceIdeal.comparator_f32_i32_d1 (F := Ideal)) x y).1 (ix2 r k)
        = x (ix2 r (order (fun c => x (ix2 r c)) k))
      ∧ (Host.sort2 Cert.ReferenceIdeal.S16384x1000 1 (Cert.ReferenceIdeal.comparator_f32_i32_d1 (F := Ideal)) x y).2 (ix2 r k)
        = y (ix2 r (order (fun c => x (ix2 r c)) k)) := by
  classical
  have ha : ∀ q : Fin 1000, Shape.Idx.along (s := Cert.ReferenceIdeal.S16384x1000) (ix2 r k) (1 : Fin 2) q = ix2 r q := by
    intro q
    unfold Shape.Idx.along
    funext b
    match b with
    | ⟨0, _⟩ => rfl
    | ⟨1, _⟩ => rfl
  have hp : sortedFrom (fun k' k'' : Fin 1000 => Cert.ReferenceIdeal.comparator_f32_i32_d1 (F := Ideal)
        (x ((ix2 r k : Cert.ReferenceIdeal.S16384x1000.Idx).along (1 : Fin 2) k'), y ((ix2 r k : Cert.ReferenceIdeal.S16384x1000.Idx).along (1 : Fin 2) k'))
        (x ((ix2 r k : Cert.ReferenceIdeal.S16384x1000.Idx).along (1 : Fin 2) k''), y ((ix2 r k : Cert.ReferenceIdeal.S16384x1000.Idx).along (1 : Fin 2) k'')) == 1#1) k
      = order (fun c => x (ix2 r c)) k := by
    unfold order
    congr 1
    funext k' k''
    rw [cmp_ref, ha, ha]
  unfold Host.sort2
  rw [dif_pos (by decide)]
  constructor
  · rw [← hp]; exact congrArg x (ha _)
  · rw [← hp]; exact congrArg y (ha _)

end Cert.Row

end
-- ==== Proof.RefRow.lean ====
/-
  The reference, stage by stage, each read at an entry: the label's indicator, the row with its label cleared, the row
  with all but the fifteen largest cleared, the label restored, the log-softmax, the sums.
-/
module

public import proofs.«01_k».proof.Proof.Gen.ReferenceIdeal
public import proofs.«01_k».proof.Proof.Gen.ReferenceIdeal.Run
public import proofs.«01_k».proof.Proof.Places
public import proofs.«01_k».proof.Proof.Sorting
public import proofs.«01_k».proof.Proof.SoftMath
public import Idealize.ShloMosaic.Lib.Pointwise

@[expose] public section

set_option maxRecDepth 16384

noncomputable section

namespace Cert.Ref

open Idealize.ShloMosaic Idealize.ShloMosaic.TcCoe
open Cert.ReferenceIdeal Cert.ReferenceIdeal.Gen Cert.Row

/-- The index words of the rows' labels. -/
def labelIdx (y : IVec S16384 32) : IVec S16384x2 32 :=
  concatenate S16384x2 1 [⟨S16384x1, (broadcastInDim S16384x1 ![0] bcast_S16384_S16384x1_0 (select (cmpi .slt (iotaInDim S16384 32 0) (broadcastInDim S16384 ![] bcast_S_S16384 (constantI S_ 32 0#32))) (addi (iotaInDim S16384 32 0) (broadcastInDim S16384 ![] bcast_S_S16384 (constantI S_ 32 16384#32))) (iotaInDim S16384 32 0)))⟩, ⟨S16384x1, (broadcastInDim S16384x1 ![0] bcast_S16384_S16384x1_0 (select (cmpi .slt y (broadcastInDim S16384 ![] bcast_S_S16384 (constantI S_ 32 0#32))) (addi y (broadcastInDim S16384 ![] bcast_S_S16384 (constantI S_ 32 1000#32))) y))⟩] concatenates_S16384x1_S16384x1_S16384x2_d1

/-- The label's indicator. -/
def onehot (y : IVec S16384 32) : FVec Ideal S16384x1000 .f32 :=
  Host.scatter scatter_S16384x1000_S16384x2_S16384_n_01_01_1 (fun _ b => b) (broadcastInDim S16384x1000 ![] bcast_S_S16384x1000 (constant S_ .f32 0x00000000#32)) (labelIdx y) (broadcastInDim S16384 ![] bcast_S_S16384 (constant S_ .f32 0x3F800000#32))

/-- The logits with the labels' cleared. -/
def cleared (x : FVec Ideal S16384x1000 .f32) (y : IVec S16384 32) : FVec Ideal S16384x1000 .f32 :=
  Host.scatter scatter_S16384x1000_S16384x2_S16384_n_01_01_1 (fun _ b => b) x (labelIdx y) (broadcastInDim S16384 ![] bcast_S_S16384 (constant S_ .f32 0x00000000#32))

/-- The columns of each row's 985 lowest entries. -/
def lowCols (n : FVec Ideal S16384x1000 .f32) : IVec S16384x985 32 :=
  extractStridedSlice S16384x985 ![0, 0] ((Host.sort2 S16384x1000 1 (comparator_f32_i32_d1 (F := Ideal)) n (iotaInDim S16384x1000 32 1)).2) slices_S16384x1000_S16384x985_0_0

/-- Their index words. -/
def lowIdx (q : IVec S16384x985 32) : IVec S16384x985x2 32 :=
  concatenate S16384x985x2 2 [⟨S16384x985x1, (broadcastInDim S16384x985x1 ![0, 1] bcast_S16384x985_S16384x985x1_0_1 (broadcastInDim S16384x985 ![0, 1] bcast_S16384x1_S16384x985_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0)))))⟩, ⟨S16384x985x1, (broadcastInDim S16384x985x1 ![0, 1] bcast_S16384x985_S16384x985x1_0_1 (select (cmpi .slt q (broadcastInDim S16384x985 ![] bcast_S_S16384x985 (constantI S_ 32 0#32))) (addi q (broadcastInDim S16384x985 ![] bcast_S_S16384x985 (constantI S_ 32 1000#32))) q))⟩] concatenates_S16384x985x1_S16384x985x1_S16384x985x2_d2

/-- The lowest 985 entries of each row cleared. -/
def dropped (n : FVec Ideal S16384x1000 .f32) : FVec Ideal S16384x1000 .f32 :=
  Host.scatter scatter_S16384x1000_S16384x985x2_S16384x985_n_01_01_2 (fun _ b => b) n (lowIdx (lowCols n)) (broadcastInDim S16384x985 ![] bcast_S_S16384x985 (constant S_ .f32 0x00000000#32))

/-- The label's logit put back. -/
def restored (x : FVec Ideal S16384x1000 .f32) (y : IVec S16384 32) : FVec Ideal S16384x1000 .f32 :=
  Host.scatter scatter_S16384x1000_S16384x2_S16384_n_01_01_1 (fun _ b => b) (dropped (cleared x y)) (labelIdx y) (Host.gather gather_S16384x1000_S16384x2_S16384_n_01_n_n_01_1_11 x (labelIdx y))

/-- The rows' maxima. -/
def rowMax (w : FVec Ideal S16384x1000 .f32) : FVec Ideal S16384 .f32 :=
  Host.reduce FloatOps.maximumf w (constant S_ .f32 0xFF800000#32) reducesTo_S16384x1000_S16384_d1 h_S_

/-- The same, from −∞ again. -/
def rowTop (w : FVec Ideal S16384x1000 .f32) : FVec Ideal S16384 .f32 :=
  maximumf (broadcastInDim S16384 ![] bcast_S_S16384 (constant S_ .f32 0xFF800000#32)) (rowMax w)

/-- The rows less their maxima. -/
def shifted (w : FVec Ideal S16384x1000 .f32) : FVec Ideal S16384x1000 .f32 :=
  subf w (broadcastInDim S16384x1000 ![0, 1] bcast_S16384x1_S16384x1000_0_1 (broadcastInDim S16384x1 ![0] bcast_S16384_S16384x1_0 (rowTop w)))

/-- The log-softmax of the rows. -/
def logSoft (w : FVec Ideal S16384x1000 .f32) : FVec Ideal S16384x1000 .f32 :=
  subf (shifted w) (broadcastInDim S16384x1000 ![0, 1] bcast_S16384x1_S16384x1000_0_1 (Host.log (broadcastInDim S16384x1 ![0] bcast_S16384_S16384x1_0 (Host.reduceAdd (Host.exp (shifted w)) (constant S_ .f32 0x00000000#32) reducesTo_S16384x1000_S16384_d1 h_S_))))

/-- The log-softmax with its zeros replaced. -/
def guarded (w : FVec Ideal S16384x1000 .f32) : FVec Ideal S16384x1000 .f32 :=
  select (cmpf .oeq w (broadcastInDim S16384x1000 ![] bcast_S_S16384x1000 (constant S_ .f32 0x00000000#32))) (broadcastInDim S16384x1000 ![] bcast_S_S16384x1000 (id (constant S_ .f32 0x2EDBE6FF#32))) w

/-- The mean over the rows. -/
def meanOf (h g : FVec Ideal S16384x1000 .f32) : FVec Ideal S_ .f32 :=
  Host.divf (Host.reduceAdd (Host.reduceAdd (mulf (Host.negf h) g) (constant S_ .f32 0x00000000#32) reducesTo_S16384x1000_S16384_d1 h_S_) (constant S_ .f32 0x00000000#32) reducesTo_S16384_S_d0 h_S_) (constant S_ .f32 0x46800000#32)

/-- The reference's result is these stages in turn. -/
theorem result_eq (m : (ℓ : Loc nD τ sig) → Buf (Elt Ideal) ℓ) (c : Dev nD) :
    Cert.ReferenceIdeal.Value.res_main_v87 m c = meanOf (onehot (m ((c.tc : Thread nD τ).loc main_arg1)))
      (guarded (logSoft (restored (m ((c.tc : Thread nD τ).loc main_arg0)) (m ((c.tc : Thread nD τ).loc main_arg1))))) := by
  unfold Cert.ReferenceIdeal.Value.res_main_v87
  rfl

/-- An index word below 2³¹ is left as it is by the wrap of negative indices. -/
theorem wrap_toInt (v : Nat) (h : v < 2 ^ 31) (a : BitVec 32) :
    (Scalar.select (IntOp.cmpi .slt (BitVec.ofNat 32 v) 0#32) a (BitVec.ofNat 32 v)).toInt = v := by
  have hv : (BitVec.ofNat 32 v).toNat = v := by
    rw [BitVec.toNat_ofNat, Nat.mod_eq_of_lt (by omega)]
  rw [Routing.wrap_of_lt _ _ (by rw [hv]; exact h), BitVec.toInt_eq_toNat_cond, hv, if_pos (by omega)]

theorem labelIdx_row (y : IVec S16384 32) (a : Fin 16384) : (labelIdx y (ix2 a 0)).toInt = a.val := by
  unfold labelIdx
  pointwise
  exact wrap_toInt _ (by omega) _

theorem lowIdx_row (q : IVec S16384x985 32) (a : Fin 16384) (k : Fin 985) : (lowIdx q (ix3 a k 0)).toInt = a.val := by
  unfold lowIdx
  pointwise
  exact wrap_toInt _ (by omega) _

theorem lowCols_apply (n : FVec Ideal S16384x1000 .f32) (a : Fin 16384) (k : Fin 985) :
    lowCols n (ix2 a k) = BitVec.ofNat 32 (order (fun c => n (ix2 a c)) (k.castLE (by decide))).val := by
  unfold lowCols
  generalize hs : (Host.sort2 S16384x1000 1 (comparator_f32_i32_d1 (F := Ideal)) n (iotaInDim S16384x1000 32 1)).2 = s
  have h : s (ix2 a (k.castLE (by decide))) = iotaInDim S16384x1000 32 1 (ix2 a (order (fun c => n (ix2 a c)) (k.castLE (by decide)))) := by
    rw [← hs]
    exact (sort_apply n (iotaInDim S16384x1000 32 1) a _).2
  pointwise at h
  pointwise
  refine Eq.trans (congrArg s ?_) h
  congr 1

theorem lowIdx_col (n : FVec Ideal S16384x1000 .f32) (a : Fin 16384) (k : Fin 985) :
    (lowIdx (lowCols n) (ix3 a k 1)).toInt = (order (fun c => n (ix2 a c)) (k.castLE (by decide))).val := by
  unfold lowIdx
  pointwise
  rw [lowCols_apply]
  exact wrap_toInt _ (by omega) _

/-- The lowest 985 entries of each row are cleared, the others left. -/
theorem dropped_apply (n : FVec Ideal S16384x1000 .f32) (r : Fin 16384) (j : Fin 1000) :
    dropped n (ix2 r j) = if ∃ i, topCol (fun c => n (ix2 r c)) i = j then n (ix2 r j) else 0 := by
  classical
  have hl : ∀ k : S16384x985.Idx, scatter_S16384x1000_S16384x985x2_S16384x985_n_01_01_2.resultIdx? k (lowIdx (lowCols n)) = some (ix2 r j)
      ↔ k 0 = r ∧ order (fun c => n (ix2 r c)) ((k 1 : Fin 985).castLE (by decide)) = j := by
    intro k
    obtain ⟨a, b, rfl⟩ : ∃ (a : Fin 16384) (b : Fin 985), k = ix2 a b := ⟨k 0, k 1, by funext q; match q with | ⟨0, _⟩ => rfl | ⟨1, _⟩ => rfl⟩
    rw [lands_low, lowIdx_row, lowIdx_col]
    show _ ↔ a = r ∧ order (fun c => n (ix2 r c)) (b.castLE (by decide)) = j
    constructor
    · rintro ⟨h0, h1⟩
      obtain rfl : a = r := Fin.ext (by omega)
      exact ⟨rfl, Fin.ext (by omega)⟩
    · rintro ⟨rfl, h1⟩
      exact ⟨rfl, by rw [h1]⟩
  unfold dropped
  split_ifs with h
  · refine Routing.scatter_set_miss _ _ _ _ _ fun k hk => ?_
    exact ((low_iff _ j).1 ⟨_, ((hl k).1 hk).2⟩) h
  · obtain ⟨b, hb⟩ := (low_iff _ j).2 h
    refine Routing.scatter_set_hit _ _ _ _ _ _ (fun k _ => ?_) (ix2 r b) ((hl _).2 ⟨rfl, hb⟩)
    pointwise

variable (l : Fin 16384 → Fin 1000) (y : IVec S16384 32) (hl : ∀ r, y (ix1 r) = BitVec.ofNat 32 (l r).val)

include hl

theorem labelIdx_col (a : Fin 16384) : (labelIdx y (ix2 a 1)).toInt = (l a).val := by
  unfold labelIdx
  pointwise
  rw [hl]
  exact wrap_toInt _ (by omega) _

/-- A one-per-row update at the labels. -/
theorem set_label (x0 : FVec Ideal S16384x1000 .f32) (upd : FVec Ideal S16384 .f32) (r : Fin 16384) (j : Fin 1000) :
    Host.scatter scatter_S16384x1000_S16384x2_S16384_n_01_01_1 (fun _ b => b) x0 (labelIdx y) upd (ix2 r j)
      = if j = l r then upd (ix1 r) else x0 (ix2 r j) := by
  have hk : ∀ k : S16384.Idx, scatter_S16384x1000_S16384x2_S16384_n_01_01_1.resultIdx? k (labelIdx y) = some (ix2 r j)
      ↔ k = ix1 r ∧ j = l r := by
    intro k
    obtain ⟨a, rfl⟩ : ∃ a : Fin 16384, k = ix1 a := ⟨k 0, by funext q; match q with | ⟨0, _⟩ => rfl⟩
    rw [lands_label, labelIdx_row, labelIdx_col l y hl]
    constructor
    · rintro ⟨h0, h1⟩
      obtain rfl : a = r := Fin.ext (by omega)
      exact ⟨rfl, Fin.ext (by omega)⟩
    · rintro ⟨h0, rfl⟩
      obtain rfl : a = r := congrFun h0 0
      exact ⟨rfl, rfl⟩
  split_ifs with h
  · exact Routing.scatter_set_hit _ _ _ _ _ _ (fun k h' => by rw [((hk k).1 h').1]) (ix1 r) ((hk _).2 ⟨rfl, h⟩)
  · exact Routing.scatter_set_miss _ _ _ _ _ fun k h' => h ((hk k).1 h').2

/-- A row with its label cleared. -/
def negRow (x : FVec Ideal S16384x1000 .f32) (l : Fin 16384 → Fin 1000) (r : Fin 16384) (j : Fin 1000) : EReal :=
  if j = l r then 0 else x (ix2 r j)

theorem onehot_apply (r : Fin 16384) (j : Fin 1000) : onehot y (ix2 r j) = if j = l r then 1 else 0 := by
  unfold onehot
  rw [set_label l y hl]
  pointwise

theorem cleared_apply (x : FVec Ideal S16384x1000 .f32) (r : Fin 16384) (j : Fin 1000) : cleared x y (ix2 r j) = negRow x l r j := by
  unfold cleared negRow
  rw [set_label l y hl]
  pointwise

/-- The row whose log-softmax is taken. -/
theorem restored_apply (x : FVec Ideal S16384x1000 .f32) (r : Fin 16384) (j : Fin 1000) :
    restored x y (ix2 r j) = kept (negRow x l r) (l r) (x (ix2 r (l r))) (topCol (negRow x l r)) j := by
  classical
  unfold restored kept
  rw [set_label l y hl, gather_label x (labelIdx y) r r (l r) (labelIdx_row y r) (labelIdx_col l y hl r), dropped_apply]
  simp only [cleared_apply l y hl]
  congr!

omit hl

theorem rowMax_apply (w : FVec Ideal S16384x1000 .f32) (r : Fin 16384) : rowMax w (ix1 r) = Finset.univ.fold max ⊥ fun c => w (ix2 r c) := by
  unfold rowMax
  generalize hw : (constant (F := Ideal) S_ .f32 0xFF800000#32) = z
  have hz : z (Shape.Idx.first h_S_) = ⊥ := by rw [← hw]; exact ofBits_neg_inf
  have hr : S16384x1000.Reduces [1] S16384 := by decide
  refine (Host.reduce_eq_fold (max : EReal → EReal → EReal) w z reducesTo_S16384x1000_S16384_d1 h_S_ (ix1 r)).trans ?_
  rw [hz, Shape.ReducesTo.drop_eq_drop reducesTo_S16384x1000_S16384_d1 hr]
  exact hr.fold_fiber_r2_a1 (ix1 r) max ⊥ w

theorem max_of_bot (a b : EReal) (h : a = ⊥) : max a b = b := by
  rw [h]
  exact max_eq_right bot_le

theorem top_of (u s : FVec Ideal S16384 .f32) (i : S16384.Idx) (h : u i = (⊥ : EReal)) : maximumf u s i = s i :=
  max_of_bot (u i) (s i) h

theorem negInf_apply (i : S16384.Idx) :
    broadcastInDim S16384 ![] bcast_S_S16384 (constant (F := Ideal) S_ .f32 0xFF800000#32) i = (⊥ : EReal) :=
  ofBits_neg_inf

theorem rowTop_apply (w : FVec Ideal S16384x1000 .f32) (r : Fin 16384) : rowTop w (ix1 r) = Finset.univ.fold max ⊥ fun c => w (ix2 r c) :=
  (top_of _ _ (ix1 r) (negInf_apply _)).trans (rowMax_apply w r)

theorem shifted_apply (w : FVec Ideal S16384x1000 .f32) (r : Fin 16384) (j : Fin 1000) :
    shifted w (ix2 r j) = w (ix2 r j) - Finset.univ.fold max ⊥ fun c => w (ix2 r c) := by
  have hm := rowTop_apply w r
  generalize (Finset.univ.fold max ⊥ fun c => w (ix2 r c)) = q at hm ⊢
  unfold shifted
  generalize rowTop w = s at hm ⊢
  pointwise
  rw [hm]

theorem logSoft_apply (w : FVec Ideal S16384x1000 .f32) (r : Fin 16384) (j : Fin 1000) :
    logSoft w (ix2 r j) = logpR (fun c => w (ix2 r c)) j := by
  have hs := shifted_apply w r
  unfold logSoft logpR
  generalize shifted w = s at hs ⊢
  pointwise
  simp only [hs]

theorem guarded_apply (w : FVec Ideal S16384x1000 .f32) (r : Fin 16384) (j : Fin 1000) :
    guarded w (ix2 r j) = Cert.Row.guard (w (ix2 r j)) := by
  unfold guarded Cert.Row.guard
  pointwise
  rfl

theorem meanOf_apply (h g : FVec Ideal S16384x1000 .f32) (i : S_.Idx) :
    meanOf h g i = Ideal.div (∑ r : Fin 16384, ∑ j : Fin 1000, -(h (ix2 r j)) * g (ix2 r j)) (Ideal.ofBits .f32 0x46800000#32) := by
  unfold meanOf
  pointwise

end Cert.Ref

end
-- ==== Proof.PreFacts.lean ====
/-
  What the precondition says, row by row: the label is a column, no logit is +∞, the fifteen largest entries of a row
  with its label cleared differ, and no lane holds more than two of them.
-/
module

public import proofs.«01_k».proof.Proof.Gen.Pre_fifteen_apart
public import proofs.«01_k».proof.Proof.RefRow
public import Idealize.ShloMosaic.Lib.IndicatorCount
public import Idealize.ShloMosaic.Lib.Affine

@[expose] public section

set_option maxRecDepth 16384

noncomputable section

namespace Cert.Pre

open Idealize.ShloMosaic
open Cert.Pre_fifteen_apart Cert.Pre_fifteen_apart.Facts Cert.Row
open Cert.Ref (negRow)

/-- The logits with the labels' cleared. -/
def negs (x : FVec Ideal S16384x1000 .f32) (y : IVec S16384 32) : FVec Ideal S16384x1000 .f32 :=
  select (cmpi .eq (iotaInDim S16384x1000 32 1) (broadcastInDim S16384x1000 ![0, 1] bcast_S16384x1_S16384x1000_0_1 (broadcastInDim S16384x1 ![0] bcast_S16384_S16384x1_0 y)))
    (broadcastInDim S16384x1000 ![] bcast_S_S16384x1000 (id (constant S_ .f32 0x00000000#32))) x

/-- The fifteen largest entries of each row, in increasing order. -/
def tops (n : FVec Ideal S16384x1000 .f32) : FVec Ideal S16384x15 .f32 :=
  extractStridedSlice S16384x15 ![0, 985] (Host.sort2 S16384x1000 1 (comparator_f32_i32_d1 (F := Ideal)) n (iotaInDim S16384x1000 32 1)).1 slices_S16384x1000_S16384x15_0_985

/-- The columns they stand at. -/
def cols (n : FVec Ideal S16384x1000 .f32) : IVec S16384x15 32 :=
  extractStridedSlice S16384x15 ![0, 985] (Host.sort2 S16384x1000 1 (comparator_f32_i32_d1 (F := Ideal)) n (iotaInDim S16384x1000 32 1)).2 slices_S16384x1000_S16384x15_0_985

/-- The lanes they stand in. -/
def laneWords (q : IVec S16384x15 32) : IVec S16384x15 32 :=
  andi q (broadcastInDim S16384x15 ![] bcast_S_S16384x15 (constantI S_ 32 127#32))

/-- Which pairs of the fifteen share a lane. -/
def shared (q : IVec S16384x15 32) : IVec S16384x15x15 1 :=
  cmpi .eq (broadcastInDim S16384x15x15 ![0, 1, 2] bcast_S16384x15x1_S16384x15x15_0_1_2 (broadcastInDim S16384x15x1 ![0, 1] bcast_S16384x15_S16384x15x1_0_1 q))
    (broadcastInDim S16384x15x15 ![0, 1, 2] bcast_S16384x1x15_S16384x15x15_0_1_2 (broadcastInDim S16384x1x15 ![0, 2] bcast_S16384x15_S16384x1x15_0_2 q))

/-- How many of the fifteen share each one's lane. -/
def counts (s : IVec S16384x15x15 1) : IVec S16384x15 32 :=
  Host.reduce IntOp.addi (extui 32 s natLt_1_32) (constantI S_ 32 0#32) reducesTo_S16384x15x15_S16384x15_d2 h_S_

theorem fn_labels (x : FVec Ideal S16384x1000 .f32) (y : IVec S16384 32) :
    (fn (F := Ideal) x y).1 = andi (cmpi .sge y (broadcastInDim S16384 ![] bcast_S_S16384 (constantI S_ 32 0#32)))
      (cmpi .slt y (broadcastInDim S16384 ![] bcast_S_S16384 (constantI S_ 32 1000#32))) := rfl

theorem fn_finite (x : FVec Ideal S16384x1000 .f32) (y : IVec S16384 32) :
    (fn (F := Ideal) x y).2.1 = cmpf .olt x (broadcastInDim S16384x1000 ![] bcast_S_S16384x1000 (constant S_ .f32 0x7F800000#32)) := rfl

theorem fn_apart (x : FVec Ideal S16384x1000 .f32) (y : IVec S16384 32) :
    (fn (F := Ideal) x y).2.2.1 = cmpf .olt (extractStridedSlice S16384x14 ![0, 0] (tops (negs x y)) slices_S16384x15_S16384x14_0_0)
      (extractStridedSlice S16384x14 ![0, 1] (tops (negs x y)) slices_S16384x15_S16384x14_0_1) := by
  unfold fn fn_part1
  rfl

theorem fn_lanes (x : FVec Ideal S16384x1000 .f32) (y : IVec S16384 32) :
    (fn (F := Ideal) x y).2.2.2 = cmpi .sle (counts (shared (laneWords (cols (negs x y)))))
      (broadcastInDim S16384x15 ![] bcast_S_S16384x15 (constantI S_ 32 2#32)) := by
  unfold fn fn_part1 counts shared laneWords cols negs fn_where
  dsimp only

/-- A label between 0 and 1000 is a column's word. -/
theorem label_exists (y : IVec S16384 32)
    (h : andi (cmpi .sge y (broadcastInDim S16384 ![] bcast_S_S16384 (constantI S_ 32 0#32)))
      (cmpi .slt y (broadcastInDim S16384 ![] bcast_S_S16384 (constantI S_ 32 1000#32))) = fun _ => 1#1) (r : Fin 16384) :
    ∃ l : Fin 1000, y (ix1 r) = BitVec.ofNat 32 l.val := by
  have hr : IntOp.andi (IntOp.cmpi .sge (y (ix1 r)) 0#32) (IntOp.cmpi .slt (y (ix1 r)) 1000#32) = 1#1 := congrFun h (ix1 r)
  generalize y (ix1 r) = w at hr ⊢
  obtain ⟨h0, h1⟩ := IntOp.andi_eq_one.1 hr
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw := BitVec.toInt_eq_toNat_cond w
  have hlt := w.isLt
  refine ⟨⟨w.toNat, ?_⟩, by simp⟩
  split_ifs at hw <;> omega

theorem ofNat_inj (a b : Nat) (ha : a < 2 ^ 32) (hb : b < 2 ^ 32) : BitVec.ofNat 32 a = BitVec.ofNat 32 b ↔ a = b := by
  constructor
  · intro e
    have e' := congrArg BitVec.toNat e
    rwa [BitVec.toNat_ofNat, BitVec.toNat_ofNat, Nat.mod_eq_of_lt ha, Nat.mod_eq_of_lt hb] at e'
  · rintro rfl
    rfl

theorem olt_one (a b : Ideal .f32) (h : FloatOps.cmpf .olt a b = 1#1) : (a : EReal) < b := by
  have h' : BitVec.ofBool (decide ((a : EReal) < b)) = 1#1 := h
  by_contra hn
  rw [decide_eq_false hn] at h'
  exact absurd h' (by decide)

theorem ofBits_inf : Ideal.ofBits .f32 0x7F800000#32 = ⊤ := by simp [Ideal.ofBits, Ideal.ieee]

theorem inf_apply (i : S16384x1000.Idx) :
    broadcastInDim S16384x1000 ![] bcast_S_S16384x1000 (constant (F := Ideal) S_ .f32 0x7F800000#32) i = (⊤ : EReal) :=
  ofBits_inf

/-- No logit is +∞. -/
theorem ne_top (x : FVec Ideal S16384x1000 .f32)
    (h : cmpf .olt x (broadcastInDim S16384x1000 ![] bcast_S_S16384x1000 (constant S_ .f32 0x7F800000#32)) = fun _ => 1#1) (i : S16384x1000.Idx) :
    (x i : EReal) ≠ ⊤ := by
  have hi := olt_one _ _ (congrFun h i)
  exact ne_top_of_lt hi

theorem tops_apply (n : FVec Ideal S16384x1000 .f32) (r : Fin 16384) (k : Fin 15) :
    tops n (ix2 r k) = n (ix2 r (topCol (fun c => n (ix2 r c)) k.rev)) := by
  unfold tops
  generalize hs : (Host.sort2 S16384x1000 1 (comparator_f32_i32_d1 (F := Ideal)) n (iotaInDim S16384x1000 32 1)).1 = s
  have h : s (ix2 r ⟨999 - k.rev.val, by omega⟩) = n (ix2 r (topCol (fun c => n (ix2 r c)) k.rev)) := by
    rw [← hs, cmp_pre]
    exact (sort_apply n (iotaInDim S16384x1000 32 1) r _).1
  pointwise
  refine Eq.trans (congrArg s ?_) h
  congr 1
  refine Fin.ext ?_
  simp only [Fin.val_rev]
  omega

theorem cols_apply (n : FVec Ideal S16384x1000 .f32) (r : Fin 16384) (k : Fin 15) :
    cols n (ix2 r k) = BitVec.ofNat 32 (topCol (fun c => n (ix2 r c)) k.rev).val := by
  unfold cols
  generalize hs : (Host.sort2 S16384x1000 1 (comparator_f32_i32_d1 (F := Ideal)) n (iotaInDim S16384x1000 32 1)).2 = s
  have h : s (ix2 r ⟨999 - k.rev.val, by omega⟩) = iotaInDim S16384x1000 32 1 (ix2 r (topCol (fun c => n (ix2 r c)) k.rev)) := by
    rw [← hs, cmp_pre]
    exact (sort_apply n (iotaInDim S16384x1000 32 1) r _).2
  pointwise at h
  pointwise
  refine Eq.trans (congrArg s ?_) h
  congr 1
  refine Fin.ext ?_
  simp only [Fin.val_rev]
  omega

/-- The fifteen strictly decrease. -/
theorem anti_of (n : FVec Ideal S16384x1000 .f32)
    (h : cmpf .olt (extractStridedSlice S16384x14 ![0, 0] (tops n) slices_S16384x15_S16384x14_0_0)
      (extractStridedSlice S16384x14 ![0, 1] (tops n) slices_S16384x15_S16384x14_0_1) = fun _ => 1#1) (r : Fin 16384) :
    StrictAnti fun i => (n (ix2 r (topCol (fun c => n (ix2 r c)) i)) : EReal) := by
  rw [Fin.strictAnti_iff_succ_lt]
  intro i
  have hi := olt_one _ _ (congrFun h (ix2 r i.rev))
  have e0 : extractStridedSlice S16384x14 ![0, 0] (tops n) slices_S16384x15_S16384x14_0_0 (ix2 r i.rev) = tops n (ix2 r i.succ.rev) := by
    generalize tops n = s
    pointwise
    refine congrArg s ?_
    congr 1
    refine Fin.ext ?_
    simp only [Fin.val_rev, Fin.val_succ]
    omega
  have e1 : extractStridedSlice S16384x14 ![0, 1] (tops n) slices_S16384x15_S16384x14_0_1 (ix2 r i.rev) = tops n (ix2 r i.castSucc.rev) := by
    generalize tops n = s
    pointwise
    refine congrArg s ?_
    congr 1
    refine Fin.ext ?_
    simp only [Fin.val_rev, Fin.val_castSucc]
    omega
  rw [e0, e1, tops_apply, tops_apply, Fin.rev_rev, Fin.rev_rev] at hi
  exact hi

theorem laneWords_apply (q : IVec S16384x15 32) (r : Fin 16384) (k : Fin 15) (j : Nat) (hj : j < 1000) (h : q (ix2 r k) = BitVec.ofNat 32 j) :
    laneWords q (ix2 r k) = BitVec.ofNat 32 (j % 128) := by
  unfold laneWords
  pointwise
  rw [h]
  refine BitVec.eq_of_toNat_eq ?_
  show (BitVec.ofNat 32 j &&& 127#32).toNat = _
  rw [BitVec.toNat_and, BitVec.toNat_ofNat, BitVec.toNat_ofNat, BitVec.toNat_ofNat, Nat.mod_eq_of_lt (by omega : j < 2 ^ 32), Nat.mod_eq_of_lt (by omega : j % 128 < 2 ^ 32)]
  exact Nat.and_two_pow_sub_one_eq_mod j 7

theorem shared_apply (q : IVec S16384x15 32) (r : Fin 16384) (a b : Fin 15) : shared q (ix3 r a b) = 1#1 ↔ q (ix2 r a) = q (ix2 r b) := by
  unfold shared
  pointwise
  exact IntOp.cmpi_eq

theorem counts_apply (s : IVec S16384x15x15 1) (r : Fin 16384) (a : Fin 15) :
    counts s (ix2 r a) = BitVec.ofNat 32 (Finset.univ.filter fun b : Fin 15 => s (ix3 r a b) = 1#1).card := by
  unfold counts
  refine (Host.reduce_eq_fold IntOp.addi _ _ reducesTo_S16384x15x15_S16384x15_d2 h_S_ (ix2 r a)).trans ?_
  refine (Shape.ReducesTo.fold_fiber_r3_a2 reducesTo_S16384x15x15_S16384x15_d2 (ix2 r a) IntOp.addi _ _).trans ?_
  exact IndicatorCount.fold_addi_setWidth_eq_card (fun b : Fin 15 => s (ix3 r a b)) Finset.univ

open Classical in
/-- No lane holds more than two of the fifteen. -/
theorem lanes_of (n : FVec Ideal S16384x1000 .f32)
    (h : cmpi .sle (counts (shared (laneWords (cols n)))) (broadcastInDim S16384x15 ![] bcast_S_S16384x15 (constantI S_ 32 2#32)) = fun _ => 1#1)
    (r : Fin 16384) (i : Fin 15) :
    (Finset.univ.filter fun i' : Fin 15 => (topCol (fun c => n (ix2 r c)) i').val % 128 = (topCol (fun c => n (ix2 r c)) i).val % 128).card ≤ 2 := by
  have hi : IntOp.cmpi .sle (counts (shared (laneWords (cols n))) (ix2 r i.rev)) 2#32 = 1#1 := congrFun h (ix2 r i.rev)
  rw [IntOp.cmpi_sle, counts_apply] at hi
  have hl : ∀ k : Fin 15, laneWords (cols n) (ix2 r k) = BitVec.ofNat 32 ((topCol (fun c => n (ix2 r c)) k.rev).val % 128) := fun k =>
    laneWords_apply (cols n) r k _ (topCol (fun c => n (ix2 r c)) k.rev).isLt (cols_apply n r k)
  generalize laneWords (cols n) = q at hi hl
  have hc : ∀ b : Fin 15, shared q (ix3 r i.rev b) = 1#1 ↔ (topCol (fun c => n (ix2 r c)) b.rev).val % 128 = (topCol (fun c => n (ix2 r c)) i).val % 128 := by
    intro b
    rw [shared_apply, hl, hl, Fin.rev_rev]
    exact (ofNat_inj _ _ (by omega) (by omega)).trans eq_comm
  simp only [hc] at hi
  have hle : (Finset.univ.filter fun b : Fin 15 => (topCol (fun c => n (ix2 r c)) b.rev).val % 128 = (topCol (fun c => n (ix2 r c)) i).val % 128).card ≤ 15 :=
    (Finset.card_filter_le _ _).trans (by simp)
  have hcard : (Finset.univ.filter fun i' : Fin 15 => (topCol (fun c => n (ix2 r c)) i').val % 128 = (topCol (fun c => n (ix2 r c)) i).val % 128).card
      = (Finset.univ.filter fun b : Fin 15 => (topCol (fun c => n (ix2 r c)) b.rev).val % 128 = (topCol (fun c => n (ix2 r c)) i).val % 128).card := by
    refine Finset.card_bij (fun a _ => a.rev) (fun a ha => ?_) (fun a _ b _ e => Fin.rev_injective e) (fun b hb => ⟨b.rev, ?_, Fin.rev_rev b⟩)
    · simpa using ha
    · simpa using hb
  rw [hcard]
  have e2 : (2#32 : BitVec 32).toInt = 2 := by decide
  rw [e2, BitVec.toInt_eq_toNat_cond, BitVec.toNat_ofNat, Nat.mod_eq_of_lt (by omega), if_pos (by omega)] at hi
  omega

theorem negs_apply (x : FVec Ideal S16384x1000 .f32) (y : IVec S16384 32) (l : Fin 16384 → Fin 1000)
    (hl : ∀ r, y (ix1 r) = BitVec.ofNat 32 (l r).val) (r : Fin 16384) (j : Fin 1000) : negs x y (ix2 r j) = negRow x l r j := by
  unfold negs negRow
  have hc : IntOp.cmpi .eq (BitVec.ofNat 32 j.val) (y (ix1 r)) = 1#1 ↔ j = l r := by
    rw [IntOp.cmpi_eq, hl]
    exact (ofNat_inj _ _ (by omega) (by omega)).trans Fin.ext_iff.symm
  have h0 : (constant (F := Ideal) S_ .f32 0x00000000#32) ix0 = (0 : EReal) := Ideal.ofBits_zero_f32
  pointwise
  unfold Scalar.select
  by_cases h : j = l r
  · rw [if_pos h]
    exact (if_pos (hc.2 h)).trans h0
  · rw [if_neg h]
    exact if_neg fun e => h (hc.1 e)

end Cert.Pre

end
-- ==== Proof.Agree.lean ====
/-
  Kernel and reference agree: on each row the kernel's fifteen rounds find the entries the reference keeps, so both take
  the same guarded log-softmax; the sums over the rows are the same sum.
-/
module

public import proofs.«01_k».proof.Proof.KernelValue
public import proofs.«01_k».proof.Proof.PreFacts

@[expose] public section

set_option maxRecDepth 16384

noncomputable section

namespace Cert.Agree

open Idealize.ShloMosaic Cert.Row
open Cert.Ref (negRow)

variable (x : FVec Ideal Cert.ReferenceIdeal.S16384x1000 .f32) (l : Fin 16384 → Fin 1000)

open Classical in
/-- What the precondition says of a row. -/
structure Row (r : Fin 16384) : Prop where
  fin : ∀ j, (x (ix2 r j) : EReal) ≠ ⊤
  anti : StrictAnti fun i => negRow x l r (topCol (negRow x l r) i)
  lanes : ∀ i, (Finset.univ.filter fun i' : Fin 15 => (topCol (negRow x l r) i').val % 128 = (topCol (negRow x l r) i).val % 128).card ≤ 2

open Classical in
/-- A row's fifteen largest entries, by lane and chunk. -/
theorem top_of (n : Fin 1000 → EReal) (f : Fin 128 → Fin 8 → EReal)
    (e : ∀ i j, f i j = if h : j.val * 128 + i.val < 1000 then n ⟨j.val * 128 + i.val, h⟩ else ⊥)
    (q : Fin 15 → Fin 1000) (hr : ∀ j, (∃ i, q i = j) ∨ n j ≤ n (q 14)) (ha : StrictAnti fun i => n (q i))
    (hc : ∀ i, (Finset.univ.filter fun i' : Fin 15 => (q i').val % 128 = (q i).val % 128).card ≤ 2)
    (cl : Fin 15 → Fin 128) (cj : Fin 15 → Fin 8) (hl : ∀ i, (cl i).val = (q i).val % 128) (hj : ∀ i, (cj i).val = (q i).val / 128) :
    Top f (fun i => n (q i)) cl cj := by
  refine ⟨fun i => ?_, ha, fun i j => ?_, fun i => ?_⟩
  · have hv : (cj i).val * 128 + (cl i).val = (q i).val := by
      rw [hl, hj]
      omega
    rw [e, dif_pos (hv ▸ (q i).isLt)]
    exact congrArg n (Fin.ext hv.symm)
  · rw [e]
    split_ifs with hlt
    · refine (hr ⟨_, hlt⟩).imp_left ?_
      rintro ⟨k, hk⟩
      have hv : (q k).val = j.val * 128 + i.val := congrArg Fin.val hk
      have h1 := hl k
      have h2 := hj k
      exact ⟨k, Fin.ext (by omega), Fin.ext (by omega)⟩
    · exact Or.inr bot_le
  · simp only [Fin.ext_iff, hl]
    exact hc i

/-- The rounds' values are the fifteen largest. -/
theorem top_row (r : Fin 16384) (h : Row x l r) (i : Fin 15) :
    vmax (next^[i.val] fun l' => lane8 (lanes (fun c => x (ix2 r c)) (l r) l')) = negRow x l r (topCol (negRow x l r) i) :=
  (top_of (negRow x l r) (lanes (fun c => x (ix2 r c)) (l r)) (fun _ _ => rfl) (topCol (negRow x l r)) (rest_le _) h.anti h.lanes
    (fun i => ⟨(topCol (negRow x l r) i).val % 128, Nat.mod_lt _ (by decide)⟩)
    (fun i => ⟨(topCol (negRow x l r) i).val / 128, Nat.div_lt_of_lt_mul (Nat.lt_trans (topCol (negRow x l r) i).isLt (by decide))⟩)
    (fun _ => rfl) (fun _ => rfl)).rounds i

/-- The row's guarded log-softmax, at the label. -/
theorem row_eq (r : Fin 16384) (h : Row x l r) :
    rowK (fun c => x (ix2 r c)) (l r) = Cert.Row.guard (logpR (kept (negRow x l r) (l r) (x (ix2 r (l r))) (topCol (negRow x l r))) (l r))
      ∧ rowK (fun c => x (ix2 r c)) (l r) ≠ ⊤ := by
  have ht := top_row x l r h
  have hn : ∀ j, negRow x l r j ≠ ⊤ := fun j => by
    unfold negRow
    split_ifs
    · exact EReal.zero_ne_top
    · exact h.fin j
  have hk : rowK (fun c => x (ix2 r c)) (l r) = Cert.Row.guard (logpK (fun i => negRow x l r (topCol (negRow x l r) i)) (x (ix2 r (l r)))) := by
    unfold rowK
    exact congrArg (fun t => Cert.Row.guard (logpK t (x (ix2 r (l r))))) (funext ht)
  rw [hk]
  refine ⟨?_, guard_logpK_ne_top (fun i => hn _) (h.fin _)⟩
  rw [logpR_eq (t := fun i => negRow x l r (topCol (negRow x l r) i)) (by unfold negRow; rw [if_pos rfl]) (topCol_injective _) (fun _ => rfl)
    (fun i => h.anti.antitone (Fin.zero_le i)) hn (h.fin _)]

/-- The reference's row sum is the label's term. -/
theorem ref_row (y : IVec Cert.ReferenceIdeal.S16384 32) (hl : ∀ r, y (ix1 r) = BitVec.ofNat 32 (l r).val) (r : Fin 16384) (h : Row x l r) :
    (∑ j : Fin 1000, -(Cert.Ref.onehot y (ix2 r j) : EReal) * Cert.Ref.guarded (Cert.Ref.logSoft (Cert.Ref.restored x y)) (ix2 r j))
      = -rowK (fun c => x (ix2 r c)) (l r) := by
  rw [Finset.sum_eq_single (l r)]
  · rw [Cert.Ref.onehot_apply l y hl, if_pos rfl, Cert.Ref.guarded_apply, Cert.Ref.logSoft_apply, (row_eq x l r h).1, neg_one_mul]
    have e : (fun c => Cert.Ref.restored x y (ix2 r c)) = kept (negRow x l r) (l r) (x (ix2 r (l r))) (topCol (negRow x l r)) :=
      funext fun c => Cert.Ref.restored_apply l y hl x r c
    rw [e]
  · intro j _ hj
    rw [Cert.Ref.onehot_apply l y hl, if_neg hj, neg_zero, zero_mul]
  · intro hn
    exact absurd (Finset.mem_univ _) hn

/-- A sum over the rows, sixteen blocks of 1024. -/
theorem sum_rows (f : Fin 16384 → EReal) : ∑ r, f r = ∑ b : Fin 16, ∑ r : Fin 1024, f (rowOf b r) := by
  refine Eq.trans ?_ (Fintype.sum_prod_type' fun (b : Fin 16) (r : Fin 1024) => f (rowOf b r))
  refine (Fintype.sum_equiv (finProdFinEquiv (m := 16) (n := 1024)) (fun p => f (rowOf p.1 p.2)) f fun p => ?_).symm
  refine congrArg f (Fin.ext ?_)
  show p.1.val * 1024 + p.2.val = p.2.val + 1024 * p.1.val
  omega

/-- The two means. -/
theorem mean_eq (y : IVec Cert.ReferenceIdeal.S16384 32) (hl : ∀ r, y (ix1 r) = BitVec.ofNat 32 (l r).val) (h : ∀ r, Row x l r) :
    Cert.Ref.meanOf (Cert.Ref.onehot y) (Cert.Ref.guarded (Cert.Ref.logSoft (Cert.Ref.restored x y))) = meanK x l := by
  funext i
  rw [Cert.Ref.meanOf_apply, meanK_apply]
  refine congrArg (fun s => Ideal.div s (Ideal.ofBits .f32 0x46800000#32)) ?_
  rw [Finset.sum_congr rfl fun r _ => ref_row x l y hl r (h r), sum_rows]
  refine Finset.sum_congr rfl fun b _ => ?_
  rw [zero_sub]
  exact (neg_sum Finset.univ (fun r => rowK (fun c => x (ix2 (rowOf b r) c)) (l (rowOf b r))) fun r => (row_eq x l _ (h _)).2).2.symm

/-- The precondition gives the labels and the rows. -/
theorem of_pre [Cert.Pre_fifteen_apart.Facts] (y : IVec Cert.ReferenceIdeal.S16384 32)
    (h0 : (Cert.Pre_fifteen_apart.fn (F := Ideal) x y).1 = fun _ => 1#1)
    (h1 : (Cert.Pre_fifteen_apart.fn (F := Ideal) x y).2.1 = fun _ => 1#1)
    (h2 : (Cert.Pre_fifteen_apart.fn (F := Ideal) x y).2.2.1 = fun _ => 1#1)
    (h3 : (Cert.Pre_fifteen_apart.fn (F := Ideal) x y).2.2.2 = fun _ => 1#1) :
    ∃ l : Fin 16384 → Fin 1000, (∀ r, y (ix1 r) = BitVec.ofNat 32 (l r).val) ∧ ∀ r, Row x l r := by
  obtain ⟨l, hl⟩ := Classical.axiomOfChoice (Cert.Pre.label_exists y ((Cert.Pre.fn_labels x y).symm.trans h0))
  refine ⟨l, hl, fun r => ?_⟩
  have e : (fun c => Cert.Pre.negs x y (ix2 r c)) = negRow x l r := funext fun c => Cert.Pre.negs_apply x y l hl r c
  have ha := Cert.Pre.anti_of (Cert.Pre.negs x y) ((Cert.Pre.fn_apart x y).symm.trans h2) r
  have hc := Cert.Pre.lanes_of (Cert.Pre.negs x y) ((Cert.Pre.fn_lanes x y).symm.trans h3) r
  have e' : ∀ c, Cert.Pre.negs x y (ix2 r c) = negRow x l r c := fun c => congrFun e c
  simp only [e'] at ha
  simp only [e] at hc
  exact ⟨fun j => Cert.Pre.ne_top x ((Cert.Pre.fn_finite x y).symm.trans h1) _, ha, hc⟩

end Cert.Agree

end
-- ==== Proof.Final.lean ====
/-
  The value claim: where the precondition holds, every run of the kernel ends with the mean the reference computes.
-/
module

public import proofs.«01_k».proof.Defs
public import proofs.«01_k».proof.Proof.Agree

@[expose] public section

noncomputable section

namespace Cert.Agree

open Idealize.ShloMosaic Idealize.ShloMosaic.TcCoe Idealize.SL.Sem Cert.Row

theorem only (c c' : Dev Cert.KernelIdeal.nD) : c = c' := Subsingleton.elim (α := Fin 1) c c'

theorem value : Cert.algebraic_KernelIdeal_ReferenceIdeal_pre_fifteen_apart := by
  intro m g m' g' hp ha
  have c0 : Dev Cert.KernelIdeal.nD := (0 : Fin 1)
  obtain ⟨l, hl, hr⟩ := of_pre _ _ (hp c0).1 (hp c0).2.1 (hp c0).2.2.1 (hp c0).2.2.2
  refine ⟨fun c => meanK (m ((c.tc : Thread Cert.KernelIdeal.nD Cert.KernelIdeal.τ).loc Cert.KernelIdeal.main_arg0)) l,
    run_value m g l fun c r => only c0 c ▸ hl r, ?_⟩
  refine (θ_run _ _ _).mono (fun r h c => ⟨(h c).1.trans ?_, (h c).2⟩) (Cert.ReferenceIdeal.Value.run m' g')
  obtain rfl : c0 = c := only c0 c
  rw [Cert.Ref.result_eq, (ha c0).1, (ha c0).2]
  exact mean_eq _ l _ hl hr

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fifteen_apart
public import proofs.«01_k».proof.Proof.RefFrame
public import proofs.«01_k».proof.Proof.Final
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_fifteen_apart.Gen.facts, fun m ρ _ => Cert.Kernel.Gen.frame m ρ, fun m ρ _ => Cert.KernelIdeal.Gen.frame m ρ,
  fun m ρ _ => Cert.KernelIdeal.Gen.frame m ρ, fun m ρ _ => Cert.Ref.frame m ρ, fun m ρ _ => Cert.Ref.frame m ρ, trivial, Cert.Agree.value⟩

end Cert.Proof

end
